-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scale [hPre_finite_scale : Cert.Pre_finite_scale.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scale [hPre_finite_scale : Cert.Pre_finite_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scale [hKernelIdeal : Cert.KernelIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scale [hReferenceIdeal : Cert.ReferenceIdeal.Facts] [hPre_finite_scale : Cert.Pre_finite_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scale [hKernelIdeal : Cert.KernelIdeal.Facts] [hReferenceIdeal : Cert.ReferenceIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scale : Cert.Pre_finite_scale.Facts),
    quiescent_Kernel (hKernel := hKernel)
    ∧ quiescent_KernelIdeal (hKernelIdeal := hKernelIdeal)
    ∧ quiescent_KernelIdeal_pre_finite_scale (hKernelIdeal := hKernelIdeal) (hPre_finite_scale := hPre_finite_scale)
    ∧ quiescent_ReferenceIdeal (hReferenceIdeal := hReferenceIdeal)
    ∧ quiescent_ReferenceIdeal_pre_finite_scale (hReferenceIdeal := hReferenceIdeal) (hPre_finite_scale := hPre_finite_scale)
    ∧ preserves_Kernel_KernelIdeal
    ∧ algebraic_KernelIdeal_ReferenceIdeal_pre_finite_scale (hKernelIdeal := hKernelIdeal) (hReferenceIdeal := hReferenceIdeal) (hPre_finite_scale := hPre_finite_scale)
-- ==== Pre_finite_scale.lean ====
abbrev S24x256x7x7x160 : Shape := ⟨5, ![24, 256, 7, 7, 160]⟩
abbrev S24x256x5 : Shape := ⟨3, ![24, 256, 5]⟩
abbrev S24x256x4 : Shape := ⟨3, ![24, 256, 4]⟩
abbrev S_ : Shape := ⟨0, ![]⟩

class Facts : Prop where
  bcast_S_S24x256x5 : S_.BroadcastsInDim S24x256x5 (![] : Fin 0 → Fin S24x256x5.rank)
  reducesTo_S24x256x5_S_d0_1_2 : S24x256x5.ReducesTo [0, 1, 2] S_
  h_S_ : 0 < S_.numel

variable [Facts]

def fn {F : FTy → Type} [FloatOps F] (main_arg0 : FVec F S24x256x7x7x160 .fp8e5m2) (main_arg1 : FVec F S24x256x5 .f32) (main_arg2 : FVec F S24x256x4 .f32) : IVec S_ 1 :=
  let main_v0 : FVec F S24x256x5 .f32 := Host.absf main_arg1
  let main_cst : FVec F S_ .f32 := constant S_ .f32 0x7F800000#32
  let main_v1 : FVec F S24x256x5 .f32 := broadcastInDim S24x256x5 ![] bcast_S_S24x256x5 main_cst
  let main_v2 : IVec S24x256x5 1 := cmpf .olt main_v0 main_v1
  let main_c : IVec S_ 1 := constantI S_ 1 1#1
  let main_v3 : IVec S_ 1 := (fun x v => Host.reduce IntOp.andi x v reducesTo_S24x256x5_S_d0_1_2 h_S_) main_v2 main_c
  main_v3
-- ==== Kernel.lean ====
abbrev S24x256x7x7x160 : Shape := ⟨5, ![24, 256, 7, 7, 160]⟩
abbrev S24x256x5 : Shape := ⟨3, ![24, 256, 5]⟩
abbrev S24x256x4 : Shape := ⟨3, ![24, 256, 4]⟩
abbrev S24x7x7x160x256 : Shape := ⟨5, ![24, 7, 7, 160, 256]⟩
abbrev S24x5x256 : Shape := ⟨3, ![24, 5, 256]⟩
abbrev S24x4x256 : Shape := ⟨3, ![24, 4, 256]⟩
abbrev S24x152x160x100 : Shape := ⟨4, ![24, 152, 160, 100]⟩
abbrev S24x7x4x256 : Shape := ⟨4, ![24, 7, 4, 256]⟩
abbrev S1x7x7x160x256 : Shape := ⟨5, ![1, 7, 7, 160, 256]⟩
abbrev S1x5x256 : Shape := ⟨3, ![1, 5, 256]⟩
abbrev S1x4x256 : Shape := ⟨3, ![1, 4, 256]⟩
abbrev S1x8x160x100 : Shape := ⟨4, ![1, 8, 160, 100]⟩
abbrev S1x7x4x256 : Shape := ⟨4, ![1, 7, 4, 256]⟩
abbrev S7x256x256 : Shape := ⟨3, ![7, 256, 256]⟩
abbrev S28x256 : Shape := ⟨2, ![28, 256]⟩
abbrev S4x256 : Shape := ⟨2, ![4, 256]⟩
abbrev S1x256 : Shape := ⟨2, ![1, 256]⟩
abbrev S128x256 : Shape := ⟨2, ![128, 256]⟩
abbrev S1x1x4x256 : Shape := ⟨4, ![1, 1, 4, 256]⟩
abbrev S1x128x256 : Shape := ⟨3, ![1, 128, 256]⟩
abbrev S1x1x256 : Shape := ⟨3, ![1, 1, 256]⟩
abbrev S32x256 : Shape := ⟨2, ![32, 256]⟩
abbrev S160x256 : Shape := ⟨2, ![160, 256]⟩
abbrev S256 : Shape := ⟨1, ![256]⟩
abbrev S1x1x1x160x256 : Shape := ⟨5, ![1, 1, 1, 160, 256]⟩
abbrev S1x256x256 : Shape := ⟨3, ![1, 256, 256]⟩
abbrev S256x256 : Shape := ⟨2, ![256, 256]⟩
abbrev S160x128 : Shape := ⟨2, ![160, 128]⟩
abbrev S160x100 : Shape := ⟨2, ![160, 100]⟩
abbrev S1x1x160x100 : Shape := ⟨4, ![1, 1, 160, 100]⟩
abbrev S24x100x152x160 : Shape := ⟨4, ![24, 100, 152, 160]⟩
abbrev S24x256x7x4 : Shape := ⟨4, ![24, 256, 7, 4]⟩

abbrev nBuf : Space → Nat
  | .hbm => 12
  | .vmem => 15
  | .smem => 0
  | _ => 0

abbrev bufTy : (tb : Table) → Fin (tcTables nBuf tb) → BufTy
  | .hbm, ⟨0, _⟩ => ⟨S24x256x7x7x160, .fp8e5m2⟩
  | .hbm, ⟨1, _⟩ => ⟨S24x256x5, .f32⟩
  | .hbm, ⟨2, _⟩ => ⟨S24x256x4, .f32⟩
  | .hbm, ⟨3, _⟩ => ⟨S24x7x7x160x256, .fp8e5m2⟩
  | .hbm, ⟨4, _⟩ => ⟨S24x5x256, .f32⟩
  | .hbm, ⟨5, _⟩ => ⟨S24x4x256, .f32⟩
  | .hbm, ⟨6, _⟩ => ⟨S24x152x160x100, .f32⟩
  | .hbm, ⟨7, _⟩ => ⟨S24x7x4x256, .f32⟩
  | .hbm, ⟨8, _⟩ => ⟨S24x7x4x256, .f32⟩
  | .hbm, ⟨9, _⟩ => ⟨S24x100x152x160, .f32⟩
  | .hbm, ⟨10, _⟩ => ⟨S24x256x7x4, .f32⟩
  | .hbm, ⟨11, _⟩ => ⟨S24x256x7x4, .f32⟩
  | .local _ .vmem, ⟨0, _⟩ => ⟨S1x7x7x160x256, .fp8e5m2⟩
  | .local _ .vmem, ⟨1, _⟩ => ⟨S1x7x7x160x256, .fp8e5m2⟩
  | .local _ .vmem, ⟨2, _⟩ => ⟨S1x5x256, .f32⟩
  | .local _ .vmem, ⟨3, _⟩ => ⟨S1x5x256, .f32⟩
  | .local _ .vmem, ⟨4, _⟩ => ⟨S1x4x256, .f32⟩
  | .local _ .vmem, ⟨5, _⟩ => ⟨S1x4x256, .f32⟩
  | .local _ .vmem, ⟨6, _⟩ => ⟨S1x8x160x100, .f32⟩
  | .local _ .vmem, ⟨7, _⟩ => ⟨S1x8x160x100, .f32⟩
  | .local _ .vmem, ⟨8, _⟩ => ⟨S1x7x4x256, .f32⟩
  | .local _ .vmem, ⟨9, _⟩ => ⟨S1x7x4x256, .f32⟩
  | .local _ .vmem, ⟨10, _⟩ => ⟨S1x7x4x256, .f32⟩
  | .local _ .vmem, ⟨11, _⟩ => ⟨S1x7x4x256, .f32⟩
  | .local _ .vmem, ⟨12, _⟩ => ⟨S7x256x256, .bf16⟩
  | .local _ .vmem, ⟨13, _⟩ => ⟨S28x256, .f32⟩
  | .local _ .vmem, ⟨14, _⟩ => ⟨S28x256, .f32⟩
  | _, _ => ⟨S24x256x7x7x160, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 19], ![false, false]⟩

@[reducible] def k0_t1_loop : Scf.Loop 32 :=
  let c0_i32_15 : BitVec 32 := 0#32
  let c8_i32 : BitVec 32 := 8#32
  let v34 : BitVec 32 := Scalar.addi c0_i32_15 c8_i32
  let c1_i32 : BitVec 32 := 1#32
  ⟨c0_i32_15, v34, c1_i32⟩
def k0_off1 (k0_t1 : Fin k0_t1_loop.trips) : Fin 4 → Nat :=
  let c0_337 : Index := 0#32
  let c0_i32_15 : BitVec 32 := 0#32
  let c1_i32 : BitVec 32 := 1#32
  let arg11 : BitVec 32 := Scf.iv c0_i32_15 c1_i32 k0_t1
  let v462 : Index := Scalar.indexCast arg11
  let c0_338 : Index := 0#32
  let c0_339 : Index := 0#32
  ![0, v462.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x7x7x160x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x160x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x7x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x7x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S24x256x7x7x160 : Shape := ⟨5, ![24, 256, 7, 7, 160]⟩
abbrev S24x256x5 : Shape := ⟨3, ![24, 256, 5]⟩
abbrev S24x256x4 : Shape := ⟨3, ![24, 256, 4]⟩
abbrev S24x256x1 : Shape := ⟨3, ![24, 256, 1]⟩
abbrev S24x256 : Shape := ⟨2, ![24, 256]⟩
abbrev S_ : Shape := ⟨0, ![]⟩
abbrev S7 : Shape := ⟨1, ![7]⟩
abbrev S7x1 : Shape := ⟨2, ![7, 1]⟩
abbrev S2 : Shape := ⟨1, ![2]⟩
abbrev S1x2 : Shape := ⟨2, ![1, 2]⟩
abbrev S24x256x1x1 : Shape := ⟨4, ![24, 256, 1, 1]⟩
abbrev S1x1x7x1 : Shape := ⟨4, ![1, 1, 7, 1]⟩
abbrev S24x256x7x1 : Shape := ⟨4, ![24, 256, 7, 1]⟩
abbrev S1x1x1x2 : Shape := ⟨4, ![1, 1, 1, 2]⟩
abbrev S24x256x1x2 : Shape := ⟨4, ![24, 256, 1, 2]⟩
abbrev S24x256x7x2 : Shape := ⟨4, ![24, 256, 7, 2]⟩
abbrev S24x256x7x2x1 : Shape := ⟨5, ![24, 256, 7, 2, 1]⟩
abbrev S24x256x7x2x2 : Shape := ⟨5, ![24, 256, 7, 2, 2]⟩
abbrev S24x256x7x4 : Shape := ⟨4, ![24, 256, 7, 4]⟩
abbrev S24x256x7x7x5x32 : Shape := ⟨6, ![24, 256, 7, 7, 5, 32]⟩
abbrev S24x256x1x1x5x1 : Shape := ⟨6, ![24, 256, 1, 1, 5, 1]⟩
abbrev S24x256x7x4x1x1 : Shape := ⟨6, ![24, 256, 7, 4, 1, 1]⟩
abbrev S24x256x1x1x7x4 : Shape := ⟨6, ![24, 256, 1, 1, 7, 4]⟩
abbrev S24x256x7x4x7x4 : Shape := ⟨6, ![24, 256, 7, 4, 7, 4]⟩
abbrev S24x256x7x1x7x1x160 : Shape := ⟨7, ![24, 256, 7, 1, 7, 1, 160]⟩
abbrev S24x256x7x4x7x4x1 : Shape := ⟨7, ![24, 256, 7, 4, 7, 4, 1]⟩
abbrev S24x256x7x4x7x4x160 : Shape := ⟨7, ![24, 256, 7, 4, 7, 4, 160]⟩
abbrev S24 : Shape := ⟨1, ![24]⟩
abbrev S24x1x1x1x1x1 : Shape := ⟨6, ![24, 1, 1, 1, 1, 1]⟩
abbrev S24x100x152x160 : Shape := ⟨4, ![24, 100, 152, 160]⟩
abbrev S24x256x7x4x7x4x3 : Shape := ⟨7, ![24, 256, 7, 4, 7, 4, 3]⟩

abbrev nBuf : Space → Nat
  | .hbm => 253
  | .vmem => 2
  | .smem => 0
  | _ => 0

abbrev hbmTy0_0 (i : Nat) : BufTy := match i % 128 with
  | 0 => ⟨S24x256x7x7x160, .fp8e5m2⟩
  | 1 => ⟨S24x256x5, .f32⟩
  | 2 => ⟨S24x256x4, .f32⟩
  | 3 => ⟨S24x256x7x7x160, .f32⟩
  | 4 => ⟨S24x256x1, .f32⟩
  | 5 => ⟨S24x256, .f32⟩
  | 6 => ⟨S24x256x1, .f32⟩
  | 7 => ⟨S24x256, .f32⟩
  | 8 => ⟨S24x256x1, .f32⟩
  | 9 => ⟨S24x256, .f32⟩
  | 10 => ⟨S24x256x1, .f32⟩
  | 11 => ⟨S24x256, .f32⟩
  | 12 => ⟨S_, .f32⟩
  | 13 => ⟨S24x256, .f32⟩
  | 14 => ⟨S24x256, .f32⟩
  | 15 => ⟨S_, .f32⟩
  | 16 => ⟨S24x256, .f32⟩
  | 17 => ⟨S24x256, .f32⟩
  | 18 => ⟨S_, .f32⟩
  | 19 => ⟨S24x256, .f32⟩
  | 20 => ⟨S24x256, .f32⟩
  | 21 => ⟨S_, .f32⟩
  | 22 => ⟨S24x256, .f32⟩
  | 23 => ⟨S24x256, .f32⟩
  | 24 => ⟨S_, .f32⟩
  | 25 => ⟨S24x256, .f32⟩
  | 26 => ⟨S24x256, .f32⟩
  | 27 => ⟨S_, .f32⟩
  | 28 => ⟨S24x256, .f32⟩
  | 29 => ⟨S24x256, .f32⟩
  | 30 => ⟨S24x256, .f32⟩
  | 31 => ⟨S_, .f32⟩
  | 32 => ⟨S24x256, .f32⟩
  | 33 => ⟨S24x256, .f32⟩
  | 34 => ⟨S_, .f32⟩
  | 35 => ⟨S24x256, .f32⟩
  | 36 => ⟨S24x256, .f32⟩
  | 37 => ⟨S24x256, .f32⟩
  | 38 => ⟨S_, .f32⟩
  | 39 => ⟨S24x256, .f32⟩
  | 40 => ⟨S24x256, .f32⟩
  | 41 => ⟨S_, .f32⟩
  | 42 => ⟨S24x256, .f32⟩
  | 43 => ⟨S24x256, .f32⟩
  | 44 => ⟨S7, .f32⟩
  | 45 => ⟨S7x1, .f32⟩
  | 46 => ⟨S2, .f32⟩
  | 47 => ⟨S1x2, .f32⟩
  | 48 => ⟨S24x256x1x1, .f32⟩
  | 49 => ⟨S24x256x1x1, .f32⟩
  | 50 => ⟨S1x1x7x1, .f32⟩
  | 51 => ⟨S24x256x7x1, .f32⟩
  | 52 => ⟨S24x256x7x1, .f32⟩
  | 53 => ⟨S24x256x7x1, .f32⟩
  | 54 => ⟨S24x256x7x1, .f32⟩
  | 55 => ⟨S24x256x7x1, .f32⟩
  | 56 => ⟨S_, .f32⟩
  | 57 => ⟨S1x2, .f32⟩
  | 58 => ⟨S1x2, .f32⟩
  | 59 => ⟨S1x1x1x2, .f32⟩
  | 60 => ⟨S24x256x1x2, .f32⟩
  | 61 => ⟨S24x256x1x2, .f32⟩
  | 62 => ⟨S24x256x1x2, .f32⟩
  | 63 => ⟨S_, .f32⟩
  | 64 => ⟨S24x256x1x2, .f32⟩
  | 65 => ⟨S24x256x1x2, .f32⟩
  | 66 => ⟨S24x256x7x2, .f32⟩
  | 67 => ⟨S24x256x7x2, .f32⟩
  | 68 => ⟨S24x256x7x2, .f32⟩
  | 69 => ⟨S_, .f32⟩
  | 70 => ⟨S24x256x7x2, .f32⟩
  | 71 => ⟨S24x256x7x2, .i1⟩
  | 72 => ⟨S_, .f32⟩
  | 73 => ⟨S24x256x7x2, .f32⟩
  | 74 => ⟨S24x256x7x2, .i1⟩
  | 75 => ⟨S24x256x7x2, .i1⟩
  | 76 => ⟨S_, .f32⟩
  | 77 => ⟨S24x256x7x2, .f32⟩
  | 78 => ⟨S24x256x7x2, .f32⟩
  | 79 => ⟨S24x256x7x2, .f32⟩
  | 80 => ⟨S24x256x7x2, .i32⟩
  | 81 => ⟨S_, .i32⟩
  | 82 => ⟨S24x256x7x2, .i32⟩
  | 83 => ⟨S24x256x7x2, .i1⟩
  | 84 => ⟨S_, .i32⟩
  | 85 => ⟨S_, .i32⟩
  | 86 => ⟨S24x256x7x2, .i32⟩
  | 87 => ⟨S24x256x7x2, .i32⟩
  | 88 => ⟨S_, .i32⟩
  | 89 => ⟨S24x256x7x2, .i32⟩
  | 90 => ⟨S24x256x7x2, .i32⟩
  | 91 => ⟨S_, .i32⟩
  | 92 => ⟨S_, .i32⟩
  | 93 => ⟨S24x256x7x2, .i32⟩
  | 94 => ⟨S24x256x7x2, .i32⟩
  | 95 => ⟨S24x256x7x2, .f32⟩
  | 96 => ⟨S24x256x7x2, .f32⟩
  | 97 => ⟨S24x256x7x2, .f32⟩
  | 98 => ⟨S24x256x7x2, .f32⟩
  | 99 => ⟨S_, .f32⟩
  | 100 => ⟨S24x256x7x2, .f32⟩
  | 101 => ⟨S24x256x7x2, .f32⟩
  | 102 => ⟨S_, .f32⟩
  | 103 => ⟨S_, .f32⟩
  | 104 => ⟨S24x256x7x2, .f32⟩
  | 105 => ⟨S24x256x7x2, .f32⟩
  | 106 => ⟨S_, .f32⟩
  | 107 => ⟨S_, .f32⟩
  | 108 => ⟨S24x256x7x2, .f32⟩
  | 109 => ⟨S24x256x7x2, .f32⟩
  | 110 => ⟨S24x256x7x2x1, .f32⟩
  | 111 => ⟨S24x256x7x2x1, .f32⟩
  | 112 => ⟨S24x256x7x2x2, .f32⟩
  | 113 => ⟨S24x256x7x4, .f32⟩
  | 114 => ⟨S24x256x7x2x1, .i32⟩
  | 115 => ⟨S24x256x7x2x1, .i32⟩
  | 116 => ⟨S24x256x7x2x2, .i32⟩
  | 117 => ⟨S24x256x7x4, .i32⟩
  | 118 => ⟨S7, .f32⟩
  | 119 => ⟨S7x1, .f32⟩
  | 120 => ⟨S2, .f32⟩
  | 121 => ⟨S1x2, .f32⟩
  | 122 => ⟨S24x256x1x1, .f32⟩
  | 123 => ⟨S24x256x1x1, .f32⟩
  | 124 => ⟨S1x1x7x1, .f32⟩
  | 125 => ⟨S24x256x7x1, .f32⟩
  | 126 => ⟨S24x256x7x1, .f32⟩
  | 127 => ⟨S24x256x7x1, .f32⟩
  | _ => ⟨S24x256x7x7x160, .fp8e5m2⟩

abbrev hbmTy0_1 (i : Nat) : BufTy := match i % 128 with
  | 0 => ⟨S24x256x7x1, .f32⟩
  | 1 => ⟨S24x256x7x1, .f32⟩
  | 2 => ⟨S_, .f32⟩
  | 3 => ⟨S1x2, .f32⟩
  | 4 => ⟨S1x2, .f32⟩
  | 5 => ⟨S1x1x1x2, .f32⟩
  | 6 => ⟨S24x256x1x2, .f32⟩
  | 7 => ⟨S24x256x1x2, .f32⟩
  | 8 => ⟨S24x256x1x2, .f32⟩
  | 9 => ⟨S_, .f32⟩
  | 10 => ⟨S24x256x1x2, .f32⟩
  | 11 => ⟨S24x256x1x2, .f32⟩
  | 12 => ⟨S24x256x7x2, .f32⟩
  | 13 => ⟨S24x256x7x2, .f32⟩
  | 14 => ⟨S24x256x7x2, .f32⟩
  | 15 => ⟨S_, .f32⟩
  | 16 => ⟨S24x256x7x2, .f32⟩
  | 17 => ⟨S24x256x7x2, .i1⟩
  | 18 => ⟨S_, .f32⟩
  | 19 => ⟨S24x256x7x2, .f32⟩
  | 20 => ⟨S24x256x7x2, .i1⟩
  | 21 => ⟨S24x256x7x2, .i1⟩
  | 22 => ⟨S_, .f32⟩
  | 23 => ⟨S24x256x7x2, .f32⟩
  | 24 => ⟨S24x256x7x2, .f32⟩
  | 25 => ⟨S24x256x7x2, .f32⟩
  | 26 => ⟨S24x256x7x2, .i32⟩
  | 27 => ⟨S_, .i32⟩
  | 28 => ⟨S24x256x7x2, .i32⟩
  | 29 => ⟨S24x256x7x2, .i1⟩
  | 30 => ⟨S_, .i32⟩
  | 31 => ⟨S_, .i32⟩
  | 32 => ⟨S24x256x7x2, .i32⟩
  | 33 => ⟨S24x256x7x2, .i32⟩
  | 34 => ⟨S_, .i32⟩
  | 35 => ⟨S24x256x7x2, .i32⟩
  | 36 => ⟨S24x256x7x2, .i32⟩
  | 37 => ⟨S_, .i32⟩
  | 38 => ⟨S_, .i32⟩
  | 39 => ⟨S24x256x7x2, .i32⟩
  | 40 => ⟨S24x256x7x2, .i32⟩
  | 41 => ⟨S24x256x7x2, .f32⟩
  | 42 => ⟨S24x256x7x2, .f32⟩
  | 43 => ⟨S24x256x7x2, .f32⟩
  | 44 => ⟨S24x256x7x2, .f32⟩
  | 45 => ⟨S_, .f32⟩
  | 46 => ⟨S24x256x7x2, .f32⟩
  | 47 => ⟨S24x256x7x2, .f32⟩
  | 48 => ⟨S_, .f32⟩
  | 49 => ⟨S_, .f32⟩
  | 50 => ⟨S24x256x7x2, .f32⟩
  | 51 => ⟨S24x256x7x2, .f32⟩
  | 52 => ⟨S_, .f32⟩
  | 53 => ⟨S_, .f32⟩
  | 54 => ⟨S24x256x7x2, .f32⟩
  | 55 => ⟨S24x256x7x2, .f32⟩
  | 56 => ⟨S24x256x7x2x1, .f32⟩
  | 57 => ⟨S24x256x7x2x1, .f32⟩
  | 58 => ⟨S24x256x7x2x2, .f32⟩
  | 59 => ⟨S24x256x7x4, .f32⟩
  | 60 => ⟨S24x256x7x2x1, .i32⟩
  | 61 => ⟨S24x256x7x2x1, .i32⟩
  | 62 => ⟨S24x256x7x2x2, .i32⟩
  | 63 => ⟨S24x256x7x4, .i32⟩
  | 64 => ⟨S24x256x7x7x5x32, .f32⟩
  | 65 => ⟨S24x256x1x1x5x1, .f32⟩
  | 66 => ⟨S24x256x7x7x5x32, .f32⟩
  | 67 => ⟨S24x256x7x7x5x32, .f32⟩
  | 68 => ⟨S_, .f32⟩
  | 69 => ⟨S24x256x7x7x5x32, .f32⟩
  | 70 => ⟨S24x256x7x7x5x32, .f32⟩
  | 71 => ⟨S24x256x7x7x160, .f32⟩
  | 72 => ⟨S24x256x7x7x160, .f32⟩
  | 73 => ⟨S_, .f32⟩
  | 74 => ⟨S24x256x7x7x160, .f32⟩
  | 75 => ⟨S24x256x7x7x160, .i1⟩
  | 76 => ⟨S_, .f32⟩
  | 77 => ⟨S_, .f32⟩
  | 78 => ⟨S24x256x7x7x160, .f32⟩
  | 79 => ⟨S24x256x7x7x160, .f32⟩
  | 80 => ⟨S24x256x7x4x1x1, .f32⟩
  | 81 => ⟨S24x256x1x1x7x4, .f32⟩
  | 82 => ⟨S24x256x7x4x7x4, .f32⟩
  | 83 => ⟨S24x256x7x4x7x4, .f32⟩
  | 84 => ⟨S24x256x7x4x7x4, .f32⟩
  | 85 => ⟨S24x256x7x1x7x1x160, .f32⟩
  | 86 => ⟨S24x256x7x4x7x4x1, .f32⟩
  | 87 => ⟨S24x256x7x4x7x4x160, .f32⟩
  | 88 => ⟨S24x256x7x4x7x4x160, .f32⟩
  | 89 => ⟨S24x256x7x4x7x4x160, .f32⟩
  | 90 => ⟨S24, .i32⟩
  | 91 => ⟨S24x1x1x1x1x1, .i32⟩
  | 92 => ⟨S_, .f32⟩
  | 93 => ⟨S24x100x152x160, .f32⟩
  | 94 => ⟨S24x256x7x4x1x1, .i32⟩
  | 95 => ⟨S24x256x1x1x7x4, .i32⟩
  | 96 => ⟨S_, .i32⟩
  | 97 => ⟨S24x1x1x1x1x1, .i32⟩
  | 98 => ⟨S24x1x1x1x1x1, .i1⟩
  | 99 => ⟨S_, .i32⟩
  | 100 => ⟨S24x1x1x1x1x1, .i32⟩
  | 101 => ⟨S24x1x1x1x1x1, .i32⟩
  | 102 => ⟨S24x1x1x1x1x1, .i32⟩
  | 103 => ⟨S_, .i32⟩
  | 104 => ⟨S24x256x7x4x1x1, .i32⟩
  | 105 => ⟨S24x256x7x4x1x1, .i1⟩
  | 106 => ⟨S_, .i32⟩
  | 107 => ⟨S24x256x7x4x1x1, .i32⟩
  | 108 => ⟨S24x256x7x4x1x1, .i32⟩
  | 109 => ⟨S24x256x7x4x1x1, .i32⟩
  | 110 => ⟨S_, .i32⟩
  | 111 => ⟨S24x256x1x1x7x4, .i32⟩
  | 112 => ⟨S24x256x1x1x7x4, .i1⟩
  | 113 => ⟨S_, .i32⟩
  | 114 => ⟨S24x256x1x1x7x4, .i32⟩
  | 115 => ⟨S24x256x1x1x7x4, .i32⟩
  | 116 => ⟨S24x256x1x1x7x4, .i32⟩
  | 117 => ⟨S24x256x7x4x7x4, .i32⟩
  | 118 => ⟨S24x256x7x4x7x4, .i32⟩
  | 119 => ⟨S24x256x7x4x7x4, .i32⟩
  | 120 => ⟨S24x256x7x4x7x4x1, .i32⟩
  | 121 => ⟨S24x256x7x4x7x4x1, .i32⟩
  | 122 => ⟨S24x256x7x4x7x4x1, .i32⟩
  | 123 => ⟨S24x256x7x4x7x4x3, .i32⟩
  | 124 => ⟨S24x100x152x160, .f32⟩
  | _ => ⟨S24x256x7x7x160, .fp8e5m2⟩

abbrev hbmTy (i : Nat) : BufTy := match i / 128 with
  | 0 => hbmTy0_0 i
  | 1 => hbmTy0_1 i
  | _ => ⟨S24x256x7x7x160, .fp8e5m2⟩

abbrev bufTy : (tb : Table) → Fin (tcTables nBuf tb) → BufTy
  | .hbm, ⟨i, _⟩ => hbmTy i
  | .local _ .vmem, ⟨0, _⟩ => ⟨S24x256x7x7x160, .fp8e5m2⟩
  | .local _ .vmem, ⟨1, _⟩ => ⟨S24x256x7x7x160, .f32⟩
  | _, _ => ⟨S24x256x7x7x160, .fp8e5m2⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c : Ref sig .tc := ⟨.hbm, 81, rfl⟩
abbrev main_v63 : Ref sig .tc := ⟨.hbm, 82, rfl⟩
abbrev main_v64 : Ref sig .tc := ⟨.hbm, 83, rfl⟩
abbrev main_c_14 : Ref sig .tc := ⟨.hbm, 84, rfl⟩
abbrev main_call0_v0 : Ref sig .tc := ⟨.hbm, 85, rfl⟩
abbrev main_call0_v1 : Ref sig .tc := ⟨.hbm, 86, rfl⟩
abbrev main_v65 : Ref sig .tc := ⟨.hbm, 87, rfl⟩
abbrev main_c_15 : Ref sig .tc := ⟨.hbm, 88, rfl⟩
abbrev main_v66 : Ref sig .tc := ⟨.hbm, 89, rfl⟩
abbrev main_v67 : Ref sig .tc := ⟨.hbm, 90, rfl⟩
abbrev main_c_16 : Ref sig .tc := ⟨.hbm, 91, rfl⟩
abbrev main_call1_v0 : Ref sig .tc := ⟨.hbm, 92, rfl⟩
abbrev main_call1_v1 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_call3_v0 : Ref sig .tc := ⟨.hbm, 103, rfl⟩
abbrev main_call3_v1 : Ref sig .tc := ⟨.hbm, 104, rfl⟩
abbrev main_v75 : Ref sig .tc := ⟨.hbm, 105, rfl⟩
abbrev main_cst_19 : Ref sig .tc := ⟨.hbm, 106, rfl⟩
abbrev main_call4_v0 : Ref sig .tc := ⟨.hbm, 107, rfl⟩
abbrev main_call4_v1 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_22 : Ref sig .tc := ⟨.hbm, 143, rfl⟩
abbrev main_v108 : Ref sig .tc := ⟨.hbm, 144, rfl⟩
abbrev main_v109 : Ref sig .tc := ⟨.hbm, 145, rfl⟩
abbrev main_cst_23 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_24 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_25 : Ref sig .tc := ⟨.hbm, 155, rfl⟩
abbrev main_v117 : Ref sig .tc := ⟨.hbm, 156, rfl⟩
abbrev main_v118 : Ref sig .tc := ⟨.hbm, 157, rfl⟩
abbrev main_c_26 : Ref sig .tc := ⟨.hbm, 158, rfl⟩
abbrev main_call5_v0 : Ref sig .tc := ⟨.hbm, 159, rfl⟩
abbrev main_call5_v1 : Ref sig .tc := ⟨.hbm, 160, rfl⟩
abbrev main_v119 : Ref sig .tc := ⟨.hbm, 161, rfl⟩
abbrev main_c_27 : Ref sig .tc := ⟨.hbm, 162, rfl⟩
abbrev main_v120 : Ref sig .tc := ⟨.hbm, 163, rfl⟩
abbrev main_v121 : Ref sig .tc := ⟨.hbm, 164, rfl⟩
abbrev main_c_28 : Ref sig .tc := ⟨.hbm, 165, rfl⟩
abbrev main_call6_v0 : Ref sig .tc := ⟨.hbm, 166, rfl⟩
abbrev main_call6_v1 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_29 : Ref sig .tc := ⟨.hbm, 173, rfl⟩
abbrev main_v127 : Ref sig .tc := ⟨.hbm, 174, rfl⟩
abbrev main_v128 : Ref sig .tc := ⟨.hbm, 175, rfl⟩
abbrev main_cst_30 : Ref sig .tc := ⟨.hbm, 176, rfl⟩
abbrev main_call8_v0 : Ref sig .tc := ⟨.hbm, 177, rfl⟩
abbrev main_call8_v1 : Ref sig .tc := ⟨.hbm, 178, rfl⟩
abbrev main_v129 : Ref sig .tc := ⟨.hbm, 179, rfl⟩
abbrev main_cst_31 : Ref sig .tc := ⟨.hbm, 180, rfl⟩
abbrev main_call9_v0 : Ref sig .tc := ⟨.hbm, 181, rfl⟩
abbrev main_call9_v1 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_32 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_33 : Ref sig .tc := ⟨.hbm, 201, rfl⟩
abbrev main_v147 : Ref sig .tc := ⟨.hbm, 202, rfl⟩
abbrev main_v148 : Ref sig .tc := ⟨.hbm, 203, rfl⟩
abbrev main_cst_34 : Ref sig .tc := ⟨.hbm, 204, rfl⟩
abbrev main_call10_v0 : Ref sig .tc := ⟨.hbm, 205, rfl⟩
abbrev main_call10_v1 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_35 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_c_36 : Ref sig .tc := ⟨.hbm, 224, rfl⟩
abbrev main_v165 : Ref sig .tc := ⟨.hbm, 225, rfl⟩
abbrev main_v166 : Ref sig .tc := ⟨.hbm, 226, rfl⟩
abbrev main_c_37 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_c_38 : Ref sig .tc := ⟨.hbm, 231, rfl⟩
abbrev main_v170 : Ref sig .tc := ⟨.hbm, 232, rfl⟩
abbrev main_v171 : Ref sig .tc := ⟨.hbm, 233, rfl⟩
abbrev main_c_39 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_c_40 : Ref sig .tc := ⟨.hbm, 238, rfl⟩
abbrev main_v175 : Ref sig .tc := ⟨.hbm, 239, rfl⟩
abbrev main_v176 : Ref sig .tc := ⟨.hbm, 240, rfl⟩
abbrev main_c_41 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x256x7x7x160 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x256x7x7x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KRun.Runs.lean ====
/- The frame kit of the compiled kernel: the launch, the blocks, the conditions and the memrefs of a point. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 19) — by arithmetic of the point. -/
theorem hcond0_0 : ∀ t : Fin cfg0.N, cond0_0 (grid0.coords t) ↔ t.val % 19 = 0 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x7x7x160x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x160x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7x4x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7x4x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S7x256x256 .bf16 := Memref.whole cc0_scratch0
abbrev scM0_1 : Memref sig .tc .vmem S28x256 .f32 := Memref.whole cc0_scratch1
abbrev scM0_2 : Memref sig .tc .vmem S28x256 .f32 := Memref.whole cc0_scratch2
/-- The scratch `arg8` the kernel carries between points, as a view: what it holds is stated through it. -/
abbrev VS0_0 : View sig .tc .vmem S7x256x256 .bf16 := scM0_0.view
/-- The scratch `arg9` the kernel carries between points, as a view: what it holds is stated through it. -/
abbrev VS0_1 : View sig .tc .vmem S28x256 .f32 := scM0_1.view
/-- The scratch `arg10` the kernel carries between points, as a view: what it holds is stated through it. -/
abbrev VS0_2 : View sig .tc .vmem S28x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KRun.RunA.lean ====
/- The run of the compiled kernel's body at an image's first point. -/
module

public import proofs.«01_k».proof.Proof.KRun.Runs

@[expose] public section

-- membership in a rectangle of production extents (`View.cover_of_tiled`): the elaborator's structural look
-- recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 19, … 437: 24 of 456), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_A (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) :
    Σ' (LS0 : List (View.Piece (Elt F) S7x256x256 .bf16)), Σ' (LS1 : List (View.Piece (Elt F) S28x256 .f32)), { LS2 : List (View.Piece (Elt F) S28x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun E K => ?run⟩
  case run =>
    simp only [cc0__body_eq_skeleton]; unfold cc0__body_skel
    simp only [k0_part46_eq_skeleton, k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]; · iexists _; iexact HS0
    isplitl [HS1]; · iexists _; iexact HS1
    iexists _; iexact HS2

end Cert.Kernel.Fr

end
-- ==== Proof.KRun.RunB.lean ====
/- The run of the compiled kernel's body at an image's other points. -/
module

public import proofs.«01_k».proof.Proof.KRun.RunA

@[expose] public section

-- membership in a rectangle of production extents (`View.cover_of_tiled`): the elaborator's structural look
-- recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 455: 432 of 456), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_B (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : ¬cond0_0 i)
    (x0 : Vec F S1x7x7x160x256 .fp8e5m2) (x1 : Vec F S1x5x256 .f32) (x2 : Vec F S1x4x256 .f32) (xs0 : Vec F S7x256x256 .bf16) (xs1 : Vec F S28x256 .f32) (xs2 : Vec F S28x256 .f32) :
    Σ' (LS0 : List (View.Piece (Elt F) S7x256x256 .bf16)), Σ' (LS1 : List (View.Piece (Elt F) S28x256 .f32)), { LS2 : List (View.Piece (Elt F) S28x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨[], [], [], fun E K => ?run⟩
  case run =>
    simp only [cc0__body_eq_skeleton]; unfold cc0__body_skel
    simp only [k0_part46_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.Kernel.Fr

end
-- ==== Proof.KRun.Frame.lean ====
/- The frame of the compiled kernel: the arguments end unchanged and every semaphore at zero; nothing is said of the outputs. -/
module

public import proofs.«01_k».proof.Proof.KRun.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 14 pieces of `S1x128x256` tiling it (Lib/Ring.lean `Piece.tiledL`). -/
theorem scover0_A_0 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) (y : S7x256x256.Idx) :
    ∃ pc ∈ (kernelRun0_A c i arg2 harg2 arg3 harg3 arg4 harg4 arg5 harg5 arg6 harg6 arg7 harg7 arg8 harg8 arg9 harg9 arg10 harg10 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 hc0 x0 x1 x2).1 S1x128x256.size (by sl_kernel_rfl) y

/-- What case A leaves in scratch `arg8`: its pieces read back over junk. -/
def sout0_A_0 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) : Vec F S7x256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2).1)

/-- Case A's pieces for scratch `arg9`, which the kernel carries between points, cover it: 7 pieces of `S4x256` tiling it (Lib/Ring.lean `Piece.tiledL`). -/
theorem scover0_A_1 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) (y : S28x256.Idx) :
    ∃ pc ∈ (kernelRun0_A c i arg2 harg2 arg3 harg3 arg4 harg4 arg5 harg5 arg6 harg6 arg7 harg7 arg8 harg8 arg9 harg9 arg10 harg10 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.1 S4x256.size (by sl_kernel_rfl) y

/-- What case A leaves in scratch `arg9`: its pieces read back over junk. -/
def sout0_A_1 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) : Vec F S28x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 x0 x1 x2).2.1)

/-- Case A's pieces for scratch `arg10`, which the kernel carries between points, cover it: 7 pieces of `S4x256` tiling it (Lib/Ring.lean `Piece.tiledL`). -/
theorem scover0_A_2 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) (y : S28x256.Idx) :
    ∃ pc ∈ (kernelRun0_A c i arg2 harg2 arg3 harg3 arg4 harg4 arg5 harg5 arg6 harg6 arg7 harg7 arg8 harg8 arg9 harg9 arg10 harg10 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2).2.2.1 S4x256.size (by sl_kernel_rfl) y

/-- What case A leaves in scratch `arg10`: its pieces read back over junk. -/
def sout0_A_2 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : cond0_0 i)
    (x0 : Vec F S1x7x7x160x256 .fp8e5m2) (x1 : Vec F S1x5x256 .f32) (x2 : Vec F S1x4x256 .f32) : Vec F S28x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 x0 x1 x2).2.2.1)

/-- Case B stores nothing into scratch `arg8`: it holds what the point before left. -/
def sout0_B_0 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : ¬cond0_0 i)
    (x0 : Vec F S1x7x7x160x256 .fp8e5m2) (x1 : Vec F S1x5x256 .f32) (x2 : Vec F S1x4x256 .f32) (xs0 : Vec F S7x256x256 .bf16) (xs1 : Vec F S28x256 .f32) (xs2 : Vec F S28x256 .f32) : Vec F S7x256x256 .bf16 := xs0

/-- Case B stores nothing into scratch `arg9`: it holds what the point before left. -/
def sout0_B_1 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : ¬cond0_0 i)
    (x0 : Vec F S1x7x7x160x256 .fp8e5m2) (x1 : Vec F S1x5x256 .f32) (x2 : Vec F S1x4x256 .f32) (xs0 : Vec F S7x256x256 .bf16) (xs1 : Vec F S28x256 .f32) (xs2 : Vec F S28x256 .f32) : Vec F S28x256 .f32 := xs1

/-- Case B stores nothing into scratch `arg10`: it holds what the point before left. -/
def sout0_B_2 (c : Dev nD) (i : grid0.Coords) (arg2 : Memref sig .tc .vmem S1x7x7x160x256 .fp8e5m2) (harg2 : arg2.IsWhole) (arg3 : Memref sig .tc .vmem S1x5x256 .f32) (harg3 : arg3.IsWhole) (arg4 : Memref sig .tc .vmem S1x4x256 .f32) (harg4 : arg4.IsWhole) (arg5 : Memref sig .tc .vmem S1x8x160x100 .f32) (harg5 : arg5.IsWhole) (arg6 : Memref sig .tc .vmem S1x7x4x256 .f32) (harg6 : arg6.IsWhole) (arg7 : Memref sig .tc .vmem S1x7x4x256 .f32) (harg7 : arg7.IsWhole) (arg8 : Memref sig .tc .vmem S7x256x256 .bf16) (harg8 : arg8.IsWhole) (arg9 : Memref sig .tc .vmem S28x256 .f32) (harg9 : arg9.IsWhole) (arg10 : Memref sig .tc .vmem S28x256 .f32) (harg10 : arg10.IsWhole) (hc0 : ¬cond0_0 i)
    (x0 : Vec F S1x7x7x160x256 .fp8e5m2) (x1 : Vec F S1x5x256 .f32) (x2 : Vec F S1x4x256 .f32) (xs0 : Vec F S7x256x256 .bf16) (xs1 : Vec F S28x256 .f32) (xs2 : Vec F S28x256 .f32) : Vec F S28x256 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S7x256x256 .bf16 × Vec F S28x256 .f32 × Vec F S28x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 19 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 19 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 19 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 456 := lt_of_lt_of_eq t.isLt (show cfg0.N = 456 from N_0)
  by_cases h0 : t.val % 19 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    by_cases hz : t.val = 0
    · rw [PhiS_castSucc m c t, PhiS_zero m c _ _ hz, PhiA0_eq]
      rw [outsAt0_A m c t h0]
      unfold sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      rw [outsAt0_A m c t h0]
      unfold sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    by_cases hz : t.val = 0
    · exfalso; have hN : t.val < 456 := lt_of_lt_of_eq t.isLt (show cfg0.N = 456 from N_0); omega
    · rw [PhiS_castSucc m c t, PhiS_pos m c _ _ hz]
      rw [outsAt0_B m c t h0]
      unfold sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (iblk m c 0 t) (iblk m c 1 t) (iblk m c 2 t) _ _ _).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 456 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Fr

end
-- ==== Proof.Run.Kit.lean ====
/- What the run of the idealized kernel is stated over: the branch condition in closed form over the grid points,
   the staging and scratch memrefs of a point, and the region's invariant with the scratch owned. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 19) — by arithmetic of the point. -/
theorem hcond0_0 : ∀ t : Fin cfg0.N, cond0_0 (grid0.coords t) ↔ t.val % 19 = 0 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x7x7x160x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x160x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7x4x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7x4x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S7x256x256 .bf16 := Memref.whole cc0_scratch0
abbrev scM0_1 : Memref sig .tc .vmem S28x256 .f32 := Memref.whole cc0_scratch1
abbrev scM0_2 : Memref sig .tc .vmem S28x256 .f32 := Memref.whole cc0_scratch2
/-- The scratch `arg8` the kernel carries between points, as a view: what it holds is stated through it. -/
abbrev VS0_0 : View sig .tc .vmem S7x256x256 .bf16 := scM0_0.view
/-- The scratch `arg9` the kernel carries between points, as a view: what it holds is stated through it. -/
abbrev VS0_1 : View sig .tc .vmem S28x256 .f32 := scM0_1.view
/-- The scratch `arg10` the kernel carries between points, as a view: what it holds is stated through it. -/
abbrev VS0_2 : View sig .tc .vmem S28x256 .f32 := scM0_2.view

/-- The region's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Val

end
-- ==== Proof.Run.Split.lean ====
/- The body of the idealized kernel as two programs: the preparation at the first point of an image (weights and
   indices of both axes, and the row matrix of the y axis) and the columns that every point computes. -/
module

public import proofs.«01_k».proof.Proof.Run.Kit

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The branch taken at an image's first point. -/
def prepProg (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) :
    Prog (TpuEff nD τ sig (Elt F) Λ₀ .tc) PUnit := do
  let ⟨v517, v525, v1016, v1377, v1383⟩ : Σ' (v517 : FVec F S1x256 .f32) (v525 : FVec F S1x256 .f32) (v1016 : FVec F S128x256 .f32) (v1377 : FVec F S128x256 .f32), FVec F S128x256 .f32 ← k0_part33 i arg2 harg2 arg3 harg3 arg4 harg4 arg5 harg5 arg6 harg6 arg7 harg7 arg8 harg8 arg9 harg9 arg10 harg10
  let v1396 : Vec F S1x128x256 .bf16 ← Prog.lift (.load arg8 (Rect.unit (s := S7x256x256) ![6, 0, 0] S1x128x256.size inb_S7x256x256_S1x128x256_6_0_0).toLoadRect (View.loadsAt_vmem h_S1x128x256))
  Prog.lift (.store arg8 (Rect.unit (s := S7x256x256) ![6, 0, 0] S1x128x256.size inb_S7x256x256_S1x128x256_6_0_0) (k0_pay405 v517 v525 v1016 v1377 v1383) Finset.univ (View.stores_vmem h_S1x128x256 (harg8.storeExact_slice rfl _ packedbf16_S7x256x256_S1x128x256_6_0_0) (fun _ => rfl)) (.inl rfl))
  let v1399 : Vec F S1x128x256 .bf16 ← Prog.lift (.load arg8 (Rect.unit (s := S7x256x256) ![6, 128, 0] S1x128x256.size inb_S7x256x256_S1x128x256_6_128_0).toLoadRect (View.loadsAt_vmem h_S1x128x256))
  Prog.lift (.store arg8 (Rect.unit (s := S7x256x256) ![6, 128, 0] S1x128x256.size inb_S7x256x256_S1x128x256_6_128_0) (k0_pay406 v517 v525 v1016 v1377 v1383) Finset.univ (View.stores_vmem h_S1x128x256 (harg8.storeExact_slice rfl _ packedbf16_S7x256x256_S1x128x256_6_128_0) (fun _ => rfl)) (.inl rfl))
  pure ⟨⟩

/-- What every point runs: the scales of its image, and the loop over its columns. -/
def colsProg (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) :
    Prog (TpuEff nD τ sig (Elt F) Λ₀ .tc) PUnit := do
  let v3 : Vec F S1x1x256 .f32 ← Prog.lift (.load arg3 (Rect.unit (s := S1x5x256) ![0, 0, 0] S1x1x256.size inb_S1x5x256_S1x1x256_0_0_0).toLoadRect (View.loadsAt_vmem h_S1x1x256))
  let v9 : Vec F S1x1x256 .f32 ← Prog.lift (.load arg3 (Rect.unit (s := S1x5x256) ![0, 1, 0] S1x1x256.size inb_S1x5x256_S1x1x256_0_1_0).toLoadRect (View.loadsAt_vmem h_S1x1x256))
  let v15 : Vec F S1x1x256 .f32 ← Prog.lift (.load arg3 (Rect.unit (s := S1x5x256) ![0, 2, 0] S1x1x256.size inb_S1x5x256_S1x1x256_0_2_0).toLoadRect (View.loadsAt_vmem h_S1x1x256))
  let v21 : Vec F S1x1x256 .f32 ← Prog.lift (.load arg3 (Rect.unit (s := S1x5x256) ![0, 3, 0] S1x1x256.size inb_S1x5x256_S1x1x256_0_3_0).toLoadRect (View.loadsAt_vmem h_S1x1x256))
  let v27 : Vec F S1x1x256 .f32 ← Prog.lift (.load arg3 (Rect.unit (s := S1x5x256) ![0, 4, 0] S1x1x256.size inb_S1x5x256_S1x1x256_0_4_0).toLoadRect (View.loadsAt_vmem h_S1x1x256))
  Scf.Loop.for k0_t1_loop k0_t1_ok ⟨⟩ (k0_t1_body i arg2 harg2 arg3 harg3 arg4 harg4 arg5 harg5 arg6 harg6 arg7 harg7 arg8 harg8 arg9 harg9 arg10 harg10 (BitVec.ofNat 32 (i 1).val) (k0_pay407 v3 v9 v15 v21 v27) 0#32)
  pure ⟨⟩

/-- At an image's first point the body is the preparation, then the columns. -/
theorem body_first (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (h : cond0_0 i) :
    cc0__body (F := F) i arg2 harg2 arg3 harg3 arg4 harg4 arg5 harg5 arg6 harg6 arg7 harg7 arg8 harg8 arg9 harg9 arg10 harg10 = (prepProg i arg2 harg2 arg3 harg3 arg4 harg4 arg5 harg5 arg6 harg6 arg7 harg7 arg8 harg8 arg9 harg9 arg10 harg10 >>= fun _ => colsProg i arg2 harg2 arg3 harg3 arg4 harg4 arg5 harg5 arg6 harg6 arg7 harg7 arg8 harg8 arg9 harg9 arg10 harg10) := by
  rw [cc0__body_eq_skeleton]; unfold cc0__body_skel
  rw [k0_part46_eq_skeleton]; unfold k0_part46_skel prepProg colsProg
  rw [dif_pos h]
  simp only [bind_assoc, pure_bind]

/-- At every other point it is the columns alone. -/
theorem body_later (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (h : ¬cond0_0 i) :
    cc0__body (F := F) i arg2 harg2 arg3 harg3 arg4 harg4 arg5 harg5 arg6 harg6 arg7 harg7 arg8 harg8 arg9 harg9 arg10 harg10 = colsProg i arg2 harg2 arg3 harg3 arg4 harg4 arg5 harg5 arg6 harg6 arg7 harg7 arg8 harg8 arg9 harg9 arg10 harg10 := by
  rw [cc0__body_eq_skeleton]; unfold cc0__body_skel
  rw [k0_part46_eq_skeleton]; unfold k0_part46_skel colsProg
  rw [dif_neg h]
  simp only [bind_assoc, pure_bind]

end Cert.KernelIdeal.Val

end
-- ==== Proof.Run.Cols.lean ====
/- The columns' run: the pieces it writes into the gradient window, found by the run. -/
module

public import proofs.«01_k».proof.Proof.Run.Split

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1200000 in
/-- The pieces the columns' loop writes into the gradient window (arg5), with the proof that from the codes, the scales,
    the row matrix, the x weights and the x indices it runs to these pieces. -/
def colsRun (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x0 : Vec F S1x7x7x160x256 .fp8e5m2) (x1 : Vec F S1x5x256 .f32) (xs0 : Vec F S7x256x256 .bf16) (xs1 : Vec F S28x256 .f32) (xs2 : Vec F S28x256 .f32) :
    { L5 : List (View.Piece (Elt F) S1x8x160x100 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L5) ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (colsProg i arg2 harg2 arg3 harg3 arg4 harg4 arg5 harg5 arg6 harg6 arg7 harg7 arg8 harg8 arg9 harg9 arg10 harg10) K } := by
  refine ⟨?_, fun E K => ?run⟩
  case run =>
    unfold colsProg
    unfold owns
    iintro ⟨⟨%f0, %hf0, H0⟩, ⟨%f1, %hf1, H1⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg8.eq_unread hfs0; obtain rfl := harg9.eq_unread hfs1; obtain rfl := harg10.eq_unread hfs2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H3]; · iexists _; iexact H3
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Val

end
-- ==== Proof.Run.Closed.lean ====
/- The closed forms of what the preparation leaves: the bilinear weights and elements of one axis of one box, and the arrays
   built of them. -/
module

public import proofs.«01_k».proof.Proof.Gen.KernelIdeal.Skeleton
public import Idealize.ShloMosaic.Lib.Pointwise

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

/-! ## One sampling position of one axis, as scalars -/

/-- The word of the number `p`, for the bin index `p` of an axis. -/
def binWord : Fin 7 → BitVec 32 :=
  ![0x00000000#32, 0x3F800000#32, 0x40000000#32, 0x40400000#32, 0x40800000#32, 0x40A00000#32, 0x40C00000#32]

/-- The word of the number `i + 1/2`, for the sample index `i` within a bin. -/
def halfWord : Fin 2 → BitVec 32 := ![0x3F000000#32, 0x3FC00000#32]

/-- The word of the y axis's extent, 100, and of its last element, 99; the x axis's, 152 and 151. -/
abbrev yTop : BitVec 32 := 0x42C80000#32
abbrev yLast : BitVec 32 := 0x42C60000#32
abbrev xTop : BitVec 32 := 0x43180000#32
abbrev xLast : BitVec 32 := 0x43170000#32

/-- A box edge on the feature map: the edge times 1/16, less one half. -/
def edge (e : F .f32) : F .f32 :=
  FloatOps.subf (FloatOps.mulf e (Scalar.ofBits .f32 0x3D800000#32)) (Scalar.ofBits .f32 0x3F000000#32)

/-- The extent of one of the seven bins between two edges. -/
def bin (lo hi : F .f32) : F .f32 :=
  FloatOps.divf (FloatOps.subf (edge hi) (edge lo)) (Scalar.ofBits .f32 0x40E00000#32)

/-- The position of sample `i` of bin `p`, from the lower edge `e` and the bin extent `b`. -/
def pos (e b : F .f32) (p : Fin 7) (i : Fin 2) : F .f32 :=
  FloatOps.addf (FloatOps.addf e (FloatOps.mulf (Scalar.ofBits .f32 (binWord p)) b))
    (FloatOps.divf (FloatOps.mulf (Scalar.ofBits .f32 (halfWord i)) b) (Scalar.ofBits .f32 0x40000000#32))

/-- Whether a position counts: between -1 and the axis's extent `top`. -/
def valid (top last : BitVec 32) (z : F .f32) : BitVec 1 :=
  IntOp.andi (FloatOps.cmpf .oge z (Scalar.ofBits .f32 0xBF800000#32)) (FloatOps.cmpf .ole z (Scalar.ofBits .f32 top))

/-- The position moved up to the first element. -/
def clampLo (z : F .f32) : F .f32 := FloatOps.maximumf z (Scalar.ofBits .f32 0x00000000#32)

/-- The whole part of the clamped position, at most the axis's extent. -/
def base (top last : BitVec 32) (z : F .f32) : F .f32 :=
  FloatOps.minimumf (FloatOps.floor (clampLo z)) (Scalar.ofBits .f32 top)

/-- Whether the position is at the last element or beyond. -/
def atEnd (top last : BitVec 32) (z : F .f32) : BitVec 1 := FloatOps.cmpf .oge (base top last z) (Scalar.ofBits .f32 last)

/-- The lower element of the position. -/
def lowIx (top last : BitVec 32) (z : F .f32) : F .f32 := Scalar.select (atEnd top last z) (Scalar.ofBits .f32 last) (base top last z)

/-- The upper element of the position. -/
def highIx (top last : BitVec 32) (z : F .f32) : F .f32 :=
  Scalar.select (atEnd top last z) (Scalar.ofBits .f32 last) (FloatOps.addf (lowIx top last z) (Scalar.ofBits .f32 0x3F800000#32))

/-- The position's distance from its lower element. -/
def frac (top last : BitVec 32) (z : F .f32) : F .f32 := FloatOps.subf (Scalar.select (atEnd top last z) (lowIx top last z) (clampLo z)) (lowIx top last z)

/-- The weight of the lower element. -/
def lowWt (top last : BitVec 32) (z : F .f32) : F .f32 :=
  Scalar.select (valid top last z) (FloatOps.subf (Scalar.ofBits .f32 0x3F800000#32) (frac top last z)) (Scalar.ofBits .f32 0x00000000#32)

/-- The weight of the upper element. -/
def highWt (top last : BitVec 32) (z : F .f32) : F .f32 := Scalar.select (valid top last z) (frac top last z) (Scalar.ofBits .f32 0x00000000#32)

/-- The four weights of bin `p`: lower and upper of the first sample, lower and upper of the second. -/
def wgt (top last : BitVec 32) (e b : F .f32) (p : Fin 7) : Fin 4 → F .f32 :=
  ![lowWt top last (pos e b p 0), highWt top last (pos e b p 0), lowWt top last (pos e b p 1), highWt top last (pos e b p 1)]

/-- The four elements of bin `p`, in the order of the weights. -/
def ind (top last : BitVec 32) (e b : F .f32) (p : Fin 7) : Fin 4 → F .f32 :=
  ![lowIx top last (pos e b p 0), highIx top last (pos e b p 0), lowIx top last (pos e b p 1), highIx top last (pos e b p 1)]

/-- What bin `p` puts on element `y` of the axis: the sum of its weights whose element is `y`. -/
def hits (top last : BitVec 32) (e b : F .f32) (p : Fin 7) (y : F .f32) : F .f32 :=
  FloatOps.addf (FloatOps.addf (FloatOps.addf (FloatOps.addf (Scalar.ofBits .f32 0x00000000#32)
    (Scalar.select (FloatOps.cmpf .oeq y (ind top last e b p 0)) (wgt top last e b p 0) (Scalar.ofBits .f32 0x00000000#32)))
    (Scalar.select (FloatOps.cmpf .oeq y (ind top last e b p 1)) (wgt top last e b p 1) (Scalar.ofBits .f32 0x00000000#32)))
    (Scalar.select (FloatOps.cmpf .oeq y (ind top last e b p 2)) (wgt top last e b p 2) (Scalar.ofBits .f32 0x00000000#32)))
    (Scalar.select (FloatOps.cmpf .oeq y (ind top last e b p 3)) (wgt top last e b p 3) (Scalar.ofBits .f32 0x00000000#32))

/-! ## The arrays of one image's boxes `x2` (rows: x start, y start, x end, y end) -/

/-- The y axis's weights. -/
def wyOf (x2 : Vec F S1x4x256 .f32) : Vec F S1x7x4x256 .f32 := fun j =>
  wgt yTop yLast (edge (x2 (ix3 0 1 (j 3)))) (bin (x2 (ix3 0 1 (j 3))) (x2 (ix3 0 3 (j 3)))) (j 1) (j 2)

/-- The x axis's weights. -/
def wxOf (x2 : Vec F S1x4x256 .f32) : Vec F S1x7x4x256 .f32 := fun j =>
  wgt xTop xLast (edge (x2 (ix3 0 0 (j 3)))) (bin (x2 (ix3 0 0 (j 3))) (x2 (ix3 0 2 (j 3)))) (j 1) (j 2)

/-- The x axis's weights as 28 rows, row `4 p + k`. -/
def wxRows (x2 : Vec F S1x4x256 .f32) : Vec F S28x256 .f32 := fun j =>
  wgt xTop xLast (edge (x2 (ix3 0 0 (j 1)))) (bin (x2 (ix3 0 0 (j 1))) (x2 (ix3 0 2 (j 1)))) ⟨(j 0).val / 4, Nat.div_lt_of_lt_mul (j 0).isLt⟩ ⟨(j 0).val % 4, Nat.mod_lt _ (by decide)⟩

/-- The x axis's elements as 28 rows, row `4 p + k`. -/
def ixRows (x2 : Vec F S1x4x256 .f32) : Vec F S28x256 .f32 := fun j =>
  ind xTop xLast (edge (x2 (ix3 0 0 (j 1)))) (bin (x2 (ix3 0 0 (j 1))) (x2 (ix3 0 2 (j 1)))) ⟨(j 0).val / 4, Nat.div_lt_of_lt_mul (j 0).isLt⟩ ⟨(j 0).val % 4, Nat.mod_lt _ (by decide)⟩

/-- The y axis's row matrix: for bin `p` and box `n`, rows 0-127 what the bin puts on each element, rounded; rows 128-255
    what the rounding left out. -/
def yRows (x2 : Vec F S1x4x256 .f32) : Vec F S7x256x256 .bf16 := fun j =>
  if (j 1).val < 128 then
    FloatOps.truncf .bf16 bitsLt_bf16_f32 (hits yTop yLast (edge (x2 (ix3 0 1 (j 2)))) (bin (x2 (ix3 0 1 (j 2))) (x2 (ix3 0 3 (j 2)))) (j 0) (FloatOps.sitofp .f32 (BitVec.ofNat 32 (j 1).val)))
  else
    FloatOps.truncf .bf16 bitsLt_bf16_f32
      (FloatOps.subf (hits yTop yLast (edge (x2 (ix3 0 1 (j 2)))) (bin (x2 (ix3 0 1 (j 2))) (x2 (ix3 0 3 (j 2)))) (j 0) (FloatOps.sitofp .f32 (BitVec.ofNat 32 ((j 1).val - 128))))
        (FloatOps.extf .f32 bitsLt_bf16_f32
          (FloatOps.truncf .bf16 bitsLt_bf16_f32 (hits yTop yLast (edge (x2 (ix3 0 1 (j 2)))) (bin (x2 (ix3 0 1 (j 2))) (x2 (ix3 0 3 (j 2)))) (j 0) (FloatOps.sitofp .f32 (BitVec.ofNat 32 ((j 1).val - 128)))))))

end Cert.KernelIdeal.Val

end
-- ==== Proof.Run.Column.lean ====
/- The block of gradients of one x column, in the vector operations that compute it. -/
module

public import proofs.«01_k».proof.Proof.Run.Closed

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

/-! ## One x-column of gradients, as vector operations -/

/-- The rectangle of one bin's 160 x 256 code block inside the staged codes fits. -/
theorem code_inb (ph pw : Fin 7) : ∀ a, (![0, ph.val, pw.val, 0, 0] : Fin 5 → ℕ) a + S1x1x1x160x256.size a ≤ S1x7x7x160x256.size a := by
  revert ph pw; decide

/-- The rectangle of one bin row's y weights inside the weight matrix fits. -/
theorem mat_inb (ph : Fin 7) : ∀ a, (![ph.val, 0, 0] : Fin 3 → ℕ) a + S1x256x256.size a ≤ S7x256x256.size a := by
  revert ph; decide

/-- The x weights whose element is the column `x`, the others zero. -/
def colSel (x : F .f32) (ix wx : Vec F S28x256 .f32) : Vec F S28x256 .f32 :=
  select (cmpf .oeq ix (broadcast S28x256 x)) wx (broadcast S28x256 (Scalar.ofBits .f32 0x00000000#32))

/-- Four consecutive rows of an array of 28, from row `4 p`, fit. -/
theorem row_slices (p : Fin 7) : S28x256.Slices ![4 * p.val, 0] S4x256 := by
  revert p; decide

/-- The sum of bin `p`'s four selected x weights, per box. -/
def colRow (s : Vec F S28x256 .f32) (p : Fin 7) : FVec F S1x256 .f32 :=
  shapeCast S1x256 (multiReduction .add [0] S256 (extractStridedSlice S4x256 ![4 * p.val, 0] s (row_slices p))
    0x00000000#32 reduces_S4x256_S256 (.inl rfl) rfl) shapeCasts_S256_S1x256

/-- One product of a code block with an x row. -/
def codeTerm (cd : Vec F S1x1x1x160x256 .fp8e5m2) (r : FVec F S1x256 .f32) : FVec F S160x256 .f32 :=
  mulf (extf .f32 (shapeCast S160x256 cd shapeCasts_S1x1x1x160x256_S160x256 : FVec F S160x256 .fp8e5m2) bitsLt_fp8e5m2_f32)
    (broadcastTo S160x256 r broadcasts_S1x256_S160x256)

/-- The scaled sum over the seven bins of a row of the code blocks times the x rows. -/
def codeRow (cd : Fin 7 → Vec F S1x1x1x160x256 .fp8e5m2) (sc : FVec F S160x256 .f32) (r : Fin 7 → FVec F S1x256 .f32) :
    FVec F S160x256 .f32 :=
  mulf (addf (addf (addf (addf (addf (addf (addf (broadcast S160x256 (Scalar.ofBits .f32 0x00000000#32))
    (codeTerm (cd 0) (r 0))) (codeTerm (cd 1) (r 1))) (codeTerm (cd 2) (r 2))) (codeTerm (cd 3) (r 3)))
    (codeTerm (cd 4) (r 4))) (codeTerm (cd 5) (r 5))) (codeTerm (cd 6) (r 6))) sc

/-- One bin row added to the accumulator: the two halves of `t` contracted with the y weights. -/
def accStep (acc t : FVec F S160x256 .f32) (w : Vec F S1x256x256 .bf16) : FVec F S160x256 .f32 :=
  addf (addf acc (matmul dot_S160x256_S256x256_S160x256_1_1_0_0_n_n none (truncf .bf16 t bitsLt_bf16_f32)
      (shapeCast S256x256 w shapeCasts_S1x256x256_S256x256 : FVec F S256x256 .bf16) (constant S160x256 .f32 0x00000000#32)))
    (matmul dot_S160x256_S256x256_S160x256_1_1_0_0_n_n none
      (truncf .bf16 (subf t (extf .f32 (truncf .bf16 t bitsLt_bf16_f32 : FVec F S160x256 .bf16) bitsLt_bf16_f32)) bitsLt_bf16_f32)
      (shapeCast S256x256 w shapeCasts_S1x256x256_S256x256 : FVec F S256x256 .bf16) (constant S160x256 .f32 0x00000000#32))

/-- The accumulator of one column after its seven bin rows. -/
def colAcc (cd : Fin 7 → Fin 7 → Vec F S1x1x1x160x256 .fp8e5m2) (sc : FVec F S160x256 .f32) (r : Fin 7 → FVec F S1x256 .f32)
    (w : Fin 7 → Vec F S1x256x256 .bf16) : FVec F S160x256 .f32 :=
  accStep (accStep (accStep (accStep (accStep (accStep (accStep (broadcast S160x256 (Scalar.ofBits .f32 0x00000000#32))
    (codeRow (cd 0) sc r) (w 0)) (codeRow (cd 1) sc r) (w 1)) (codeRow (cd 2) sc r) (w 2)) (codeRow (cd 3) sc r) (w 3))
    (codeRow (cd 4) sc r) (w 4)) (codeRow (cd 5) sc r) (w 5)) (codeRow (cd 6) sc r) (w 6)

/-- The block one trip stores: the two halves of the accumulator's columns added, 100 of them kept. -/
def colBlock (acc : FVec F S160x256 .f32) : FVec F S1x1x160x100 .f32 :=
  shapeCast S1x1x160x100 (extractStridedSlice S160x100 ![0, 0]
    (addf (extractStridedSlice S160x128 ![0, 0] acc slices_S160x256_o0_0_S160x128)
      (extractStridedSlice S160x128 ![0, 128] acc slices_S160x256_o0_128_S160x128))
    slices_S160x128_o0_0_S160x100) shapeCasts_S160x100_S1x1x160x100

/-- The number of the x column of trip `k` at the block of columns `a`. -/
def colNum (a : BitVec 32) (k : ℕ) : BitVec 32 := Scalar.addi (Scalar.muli a 8#32) (BitVec.ofNat 32 k)

end Cert.KernelIdeal.Val

end
-- ==== Proof.Run.TripPieces.lean ====
/- What one trip of the column loop stores. -/
module

public import proofs.«01_k».proof.Proof.Run.Cols
public import proofs.«01_k».proof.Proof.Run.Column

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole)

/-- WHAT ONE TRIP STORES: one block, at the trip's column, the columns' form of its reads. -/
theorem trip_pieces (a : BitVec 32) (v33 : FVec F S160x256 .f32) (X2 : BufTy.Contents (Elt F) arg2.view.ty)
    (X8 : BufTy.Contents (Elt F) arg8.view.ty) (X9 : BufTy.Contents (Elt F) arg9.view.ty) (X10 : BufTy.Contents (Elt F) arg10.view.ty)
    (k : Fin k0_t1_loop.trips) :
    tripL_k0_t1 (F := F) Variants.none c none i arg2 harg2 arg3 harg3 arg4 harg4 arg5 harg5 arg6 harg6 arg7 harg7 arg8 harg8 arg9 harg9 arg10 harg10 a v33 0#32 X2 X8 X9 X10 k
      = [⟨Rect.unit (s := S1x8x160x100) (k0_off1 k) S1x1x160x100.size (k0_off1_inb k),
          colBlock (colAcc
            (fun ph pw => View.readAt (Elt F) arg2.view (Rect.unit (s := S1x7x7x160x256) ![0, ph.val, pw.val, 0, 0] S1x1x1x160x256.size (code_inb ph pw)).toLoadRect X2)
            v33
            (colRow (colSel (Scalar.sitofp .f32 (Scalar.addi (Scalar.muli a 8#32) (Scf.iv 0#32 1#32 k)))
              (View.readAt (Elt F) arg10.view (Rect.unit (s := S28x256) ![0, 0] S28x256.size inb_S28x256_S28x256_0_0).toLoadRect X10)
              (View.readAt (Elt F) arg9.view (Rect.unit (s := S28x256) ![0, 0] S28x256.size inb_S28x256_S28x256_0_0).toLoadRect X9)))
            (fun ph => View.readAt (Elt F) arg8.view (Rect.unit (s := S7x256x256) ![ph.val, 0, 0] S1x256x256.size (mat_inb ph)).toLoadRect X8))⟩] := by
  unfold tripL_k0_t1 trip_k0_t1
  rfl

end Cert.KernelIdeal.Val

end
-- ==== Proof.Run.Block.lean ====
/- The block of gradients the column loop leaves in its staging buffer, in closed form over the blocks it reads. -/
module

public import proofs.«01_k».proof.Proof.Run.TripPieces
public import Idealize.ShloMosaic.Lib.WholeRead

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

/-! ## The block of gradients of one grid point -/

/-- The scales of one point's boxes, per channel. -/
def scaleOf (x1 : Vec F S1x5x256 .f32) : FVec F S160x256 .f32 :=
  k0_pay407 (fun z => x1 ((Rect.unit (s := S1x5x256) ![0, 0, 0] S1x1x256.size inb_S1x5x256_S1x1x256_0_0_0).toLoadRect.idx z))
    (fun z => x1 ((Rect.unit (s := S1x5x256) ![0, 1, 0] S1x1x256.size inb_S1x5x256_S1x1x256_0_1_0).toLoadRect.idx z))
    (fun z => x1 ((Rect.unit (s := S1x5x256) ![0, 2, 0] S1x1x256.size inb_S1x5x256_S1x1x256_0_2_0).toLoadRect.idx z))
    (fun z => x1 ((Rect.unit (s := S1x5x256) ![0, 3, 0] S1x1x256.size inb_S1x5x256_S1x1x256_0_3_0).toLoadRect.idx z))
    (fun z => x1 ((Rect.unit (s := S1x5x256) ![0, 4, 0] S1x1x256.size inb_S1x5x256_S1x1x256_0_4_0).toLoadRect.idx z))

/-- The accumulator of the column `k` of the block of columns `a`. -/
def dxAcc (a : BitVec 32) (x0 : Vec F S1x7x7x160x256 .fp8e5m2) (x1 : Vec F S1x5x256 .f32) (xs0 : Vec F S7x256x256 .bf16)
    (xs1 xs2 : Vec F S28x256 .f32) (k : ℕ) : FVec F S160x256 .f32 :=
  colAcc (fun ph pw z => x0 ((Rect.unit (s := S1x7x7x160x256) ![0, ph.val, pw.val, 0, 0] S1x1x1x160x256.size (code_inb ph pw)).toLoadRect.idx z))
    (scaleOf x1)
    (colRow (colSel (Scalar.sitofp .f32 (Scalar.addi (Scalar.muli a 8#32) (Scf.iv 0#32 1#32 k))) xs2 xs1))
    (fun ph z => xs0 ((Rect.unit (s := S7x256x256) ![ph.val, 0, 0] S1x256x256.size (mat_inb ph)).toLoadRect.idx z))

/-- The whole block: its columns' blocks side by side. -/
def dxOf (a : BitVec 32) (x0 : Vec F S1x7x7x160x256 .fp8e5m2) (x1 : Vec F S1x5x256 .f32) (xs0 : Vec F S7x256x256 .bf16)
    (xs1 xs2 : Vec F S28x256 .f32) : Vec F S1x8x160x100 .f32 :=
  fun y => colBlock (dxAcc a x0 x1 xs0 xs1 xs2 (y 1).val) (ix4 0 0 (y 2) (y 3))

/-- A column's block is the block's at the rectangle of its column. -/
theorem pieceCol (a : BitVec 32) (x0 : Vec F S1x7x7x160x256 .fp8e5m2) (x1 : Vec F S1x5x256 .f32) (xs0 : Vec F S7x256x256 .bf16)
    (xs1 xs2 : Vec F S28x256 .f32) (k : ℕ) (o : Fin 4 → ℕ) (ho : o = ![0, k, 0, 0])
    (inb : ∀ d, o d + S1x1x160x100.size d ≤ S1x8x160x100.size d) (u : S1x1x160x100.Idx) :
    colBlock (dxAcc a x0 x1 xs0 xs1 xs2 k) u
      = dxOf a x0 x1 xs0 xs1 xs2 ((Rect.unit (s := S1x8x160x100) o S1x1x160x100.size inb).emb u) := by
  subst ho
  idx_vars u
  obtain rfl : u0 = 0 := Subsingleton.elim _ _
  obtain rfl : u1 = 0 := Subsingleton.elim _ _
  have hk : k < 8 := by have := inb 1; simp at this; omega
  have e : (Rect.unit (s := S1x8x160x100) ![0, k, 0, 0] S1x1x160x100.size inb).emb (ix4 0 0 u2 u3) = (ix4 0 ⟨k, hk⟩ u2 u3 : S1x8x160x100.Idx) := by
    refine Rect.emb_eq_of_coords _ _ _ fun a => ?_
    fin_cases a <;> simp [Rect.unit, ix4]
  rw [e]
  rfl

/-- The eight columns' rectangles cover the block. -/
theorem coverCol (y : S1x8x160x100.Idx) (o : Fin 4 → ℕ) (ho : o = ![0, (y 1).val, 0, 0])
    (inb : ∀ d, o d + S1x1x160x100.size d ≤ S1x8x160x100.size d) :
    y ∈ (Rect.unit (s := S1x8x160x100) o S1x1x160x100.size inb).set := by
  subst ho
  rw [Rect.mem_set_unit]
  idx_vars y
  intro a
  fin_cases a <;> simp [ix4]
variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x0 : Vec F S1x7x7x160x256 .fp8e5m2) (x1 : Vec F S1x5x256 .f32) (xs0 : Vec F S7x256x256 .bf16) (xs1 xs2 : Vec F S28x256 .f32)

/-- The boxes of a whole-block read are the block. -/
theorem rows_read (m : Memref sig .tc .vmem S28x256 .f32) (hm : m.IsWhole) (X : Vec F S28x256 .f32) (inb) :
    View.readAt (Elt F) m.view (Rect.unit (s := S28x256) ![0, 0] S28x256.size inb).toLoadRect (hm.unread X) = X := by
  funext x
  rw [hm.readAt_unread]
  idx_vars x
  congr 1
  funext a
  apply Fin.ext
  fin_cases a <;> simp [Rect.unit, Rect.toLoadRect, LoadRect.idx, ix2]

/-- A load of a staged block is the block at the load's indices. -/
theorem readAt_unread_fun {s : Shape} {e : EltTy} (m : Memref sig .tc .vmem s e) (hm : m.IsWhole) (X : Vec F s e) (B : LoadRect s) :
    View.readAt (Elt F) m.view B (hm.unread X) = fun x => X (B.idx x) :=
  funext fun x => hm.readAt_unread X B x

/-- One trip's piece, over the blocks themselves. -/
theorem trip_blocks (a : BitVec 32) (k : Fin k0_t1_loop.trips) :
    tripL_k0_t1 (F := F) Variants.none c none i arg2 harg2 arg3 harg3 arg4 harg4 arg5 harg5 arg6 harg6 arg7 harg7 arg8 harg8 arg9 harg9 arg10 harg10 a (scaleOf x1) 0#32 (harg2.unread x0) (harg8.unread xs0) (harg9.unread xs1) (harg10.unread xs2) k
      = [⟨Rect.unit (s := S1x8x160x100) (k0_off1 k) S1x1x160x100.size (k0_off1_inb k), colBlock (dxAcc a x0 x1 xs0 xs1 xs2 k)⟩] := by
  rw [trip_pieces, rows_read arg9 harg9, rows_read arg10 harg10]
  simp only [readAt_unread_fun arg2 harg2, readAt_unread_fun arg8 harg8]
  rfl

/-- A piece of the trips before `n` is one of theirs, and conversely. -/
theorem mem_trips (a : BitVec 32) (v33 : FVec F S160x256 .f32) (X2 : BufTy.Contents (Elt F) arg2.view.ty)
    (X8 : BufTy.Contents (Elt F) arg8.view.ty) (X9 : BufTy.Contents (Elt F) arg9.view.ty) (X10 : BufTy.Contents (Elt F) arg10.view.ty)
    (pc : View.Piece (Elt F) S1x8x160x100 .f32) (n : ℕ) (hn : n ≤ k0_t1_loop.trips) :
    pc ∈ pb_k0_t1 (F := F) Variants.none c none i arg2 harg2 arg3 harg3 arg4 harg4 arg5 harg5 arg6 harg6 arg7 harg7 arg8 harg8 arg9 harg9 arg10 harg10 a v33 0#32 X2 X8 X9 X10 n ↔ ∃ k : Fin k0_t1_loop.trips, k.val < n ∧ pc ∈ tripL_k0_t1 (F := F) Variants.none c none i arg2 harg2 arg3 harg3 arg4 harg4 arg5 harg5 arg6 harg6 arg7 harg7 arg8 harg8 arg9 harg9 arg10 harg10 a v33 0#32 X2 X8 X9 X10 k := by
  induction n with
  | zero => rw [pb_k0_t1.eq_1]; constructor
            · intro h; exact absurd h List.not_mem_nil
            · rintro ⟨k, hk, -⟩; exact absurd hk (Nat.not_lt_zero _)
  | succ n ih =>
    rw [pb_k0_t1_succ _ _ _ _ _ _ _ _ _ _ _ _ _ _ _ _ _ _ _ _ _ _ _ _ _ _ _ _ _ (⟨n, hn⟩ : Fin k0_t1_loop.trips), List.mem_append, ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with h' | h'
      · exact .inr ⟨k, h', h⟩
      · left; obtain rfl : k = ⟨n, hn⟩ := Fin.ext h'; exact h

/-- The columns' pieces are the trips'. -/
theorem colsRun_eq : (colsRun c i arg2 harg2 arg3 harg3 arg4 harg4 arg5 harg5 arg6 harg6 arg7 harg7 arg8 harg8 arg9 harg9 arg10 harg10 x0 x1 xs0 xs1 xs2).1 = pb_k0_t1 (F := F) Variants.none c none i arg2 harg2 arg3 harg3 arg4 harg4 arg5 harg5 arg6 harg6 arg7 harg7 arg8 harg8 arg9 harg9 arg10 harg10 (BitVec.ofNat 32 (i 1).val)
    (k0_pay407 (View.readAt (Elt F) arg3.view (Rect.unit (s := S1x5x256) ![0, 0, 0] S1x1x256.size inb_S1x5x256_S1x1x256_0_0_0).toLoadRect (harg3.unread x1))
      (View.readAt (Elt F) arg3.view (Rect.unit (s := S1x5x256) ![0, 1, 0] S1x1x256.size inb_S1x5x256_S1x1x256_0_1_0).toLoadRect (harg3.unread x1))
      (View.readAt (Elt F) arg3.view (Rect.unit (s := S1x5x256) ![0, 2, 0] S1x1x256.size inb_S1x5x256_S1x1x256_0_2_0).toLoadRect (harg3.unread x1))
      (View.readAt (Elt F) arg3.view (Rect.unit (s := S1x5x256) ![0, 3, 0] S1x1x256.size inb_S1x5x256_S1x1x256_0_3_0).toLoadRect (harg3.unread x1))
      (View.readAt (Elt F) arg3.view (Rect.unit (s := S1x5x256) ![0, 4, 0] S1x1x256.size inb_S1x5x256_S1x1x256_0_4_0).toLoadRect (harg3.unread x1)))
    0#32 (harg2.unread x0) (harg8.unread xs0) (harg9.unread xs1) (harg10.unread xs2) k0_t1_loop.trips := rfl

/-- The columns' pieces, at the closed-form scales. -/
theorem colsRun_blocks : (colsRun c i arg2 harg2 arg3 harg3 arg4 harg4 arg5 harg5 arg6 harg6 arg7 harg7 arg8 harg8 arg9 harg9 arg10 harg10 x0 x1 xs0 xs1 xs2).1 = pb_k0_t1 (F := F) Variants.none c none i arg2 harg2 arg3 harg3 arg4 harg4 arg5 harg5 arg6 harg6 arg7 harg7 arg8 harg8 arg9 harg9 arg10 harg10 (BitVec.ofNat 32 (i 1).val)
    (scaleOf x1) 0#32 (harg2.unread x0) (harg8.unread xs0) (harg9.unread xs1) (harg10.unread xs2) k0_t1_loop.trips := by
  rw [colsRun_eq]
  simp only [readAt_unread_fun arg3 harg3]
  rfl

/-- THE BLOCK: whatever the staging buffer held, the columns leave the block of gradients in it. -/
theorem cols_read (f : BufTy.Contents (Elt F) arg5.view.ty) :
    arg5.view.read (Elt F) (arg5.view.writes (Elt F) f (colsRun c i arg2 harg2 arg3 harg3 arg4 harg4 arg5 harg5 arg6 harg6 arg7 harg7 arg8 harg8 arg9 harg9 arg10 harg10 x0 x1 xs0 xs1 xs2).1)
      = dxOf (BitVec.ofNat 32 (i 1).val) x0 x1 xs0 xs1 xs2 := by
  funext y
  rw [colsRun_blocks]
  refine View.read_writes_apply_of_pieces _ _ _ _ ?_ y ?_
  · intro pc hpc
    rw [mem_trips _ _ _ _ _ _ _ _ _ _ _ _ _ _ _ _ _ _ _ _ _ _ _ _ _ _ _ _ (le_refl _)] at hpc
    obtain ⟨k, -, h⟩ := hpc
    rw [trip_blocks, List.mem_singleton] at h
    subst h
    exact pieceCol _ _ _ _ _ _ k _ (k0_off1_eq k) (k0_off1_inb k)
  · have h8 : k0_t1_loop.trips = 8 := by decide
    have hy : (y 1).val < k0_t1_loop.trips := lt_of_lt_of_eq (y 1).isLt h8.symm
    refine ⟨⟨Rect.unit (s := S1x8x160x100) (k0_off1 ⟨_, hy⟩) S1x1x160x100.size (k0_off1_inb ⟨_, hy⟩), colBlock (dxAcc (BitVec.ofNat 32 (i 1).val) x0 x1 xs0 xs1 xs2 (y 1).val)⟩, ?_, ?_⟩
    · rw [mem_trips _ _ _ _ _ _ _ _ _ _ _ _ _ _ _ _ _ _ _ _ _ _ _ _ _ _ _ _ (le_refl _)]
      refine ⟨⟨_, hy⟩, hy, ?_⟩
      rw [trip_blocks]
      exact List.mem_singleton.mpr rfl
    · exact coverCol y _ (k0_off1_eq ⟨_, hy⟩) (k0_off1_inb ⟨_, hy⟩)

end Cert.KernelIdeal.Val

end
-- ==== Proof.Run.Prep.lean ====
/- The preparation run: the pieces it writes into the two weight windows and the three scratch arrays, found by the run. -/
module

public import proofs.«01_k».proof.Proof.Run.Split

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the preparation writes into the weight windows (arg6, arg7), the row matrix (arg8), the x weights (arg9)
    and the x indices (arg10), with the proof that from the boxes alone it runs to these pieces. -/
def prepRun (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x2 : Vec F S1x4x256 .f32) :
    Σ' (L6 : List (View.Piece (Elt F) S1x7x4x256 .f32)) (L7 : List (View.Piece (Elt F) S1x7x4x256 .f32)) (L8 : List (View.Piece (Elt F) S7x256x256 .bf16)) (L9 : List (View.Piece (Elt F) S28x256 .f32)), { L10 : List (View.Piece (Elt F) S28x256 .f32) //
      ∀ (E : Set ℕ) (K : PUnit → sProp 𝕄),
        iprop(owns (c : Thread nD τ) arg4 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x2 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (prepProg i arg2 harg2 arg3 harg3 arg4 harg4 arg5 harg5 arg6 harg6 arg7 harg7 arg8 harg8 arg9 harg9 arg10 harg10) K } := by
  refine ⟨?_, ?_, ?_, ?_, ?_, fun E K => ?run⟩
  case run =>
    unfold prepProg
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f2, %hf2, H2⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg4.eq_unread hf2
    sl_exec
    sl_step
    iapply Hk
    isplitl [H2]
    · iexists _; isplitr; · ipureintro; exact harg4.read_unread _
      iexact H2
    isplitl [H4]; · iexists _; iexact H4
    isplitl [H5]; · iexists _; iexact H5
    isplitl [HS0]; · iexists _; iexact HS0
    isplitl [HS1]; · iexists _; iexact HS1
    iexists _; iexact HS2

end Cert.KernelIdeal.Val

end
-- ==== Proof.Run.PieceKit.lean ====
/- What the pieces of the preparation are read through: where each piece lies in its array, and the closed forms over the
   edges and bins as the preparation computes them. -/
module

public import proofs.«01_k».proof.Proof.Run.Prep
public import proofs.«01_k».proof.Proof.Run.Closed
public import Idealize.ShloMosaic.Lib.WholeRead

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

/-- A row of four of the weight window. -/
theorem piece4 (G : S1x7x4x256.Idx → F .f32) (p : ℕ) (hp : p < 7)
    (inb : ∀ a, (![0, p, 0, 0] : Fin 4 → ℕ) a + (![1, 1, 4, 256] : Fin 4 → ℕ) a ≤ S1x7x4x256.size a)
    (w : S1x1x4x256.Idx → F .f32) (h : ∀ (k : Fin 4) (n : Fin 256), w (ix4 0 0 k n) = G (ix4 0 ⟨p, hp⟩ k n)) :
    ∀ x : S1x1x4x256.Idx, w x = G ((Rect.unit (s := S1x7x4x256) ![0, p, 0, 0] ![1, 1, 4, 256] inb).emb x) := by
  intro x
  idx_vars x
  obtain rfl : x0 = 0 := Subsingleton.elim _ _
  obtain rfl : x1 = 0 := Subsingleton.elim _ _
  rw [h]
  congr 1
  symm
  refine Rect.emb_eq_of_coords _ _ _ fun a => ?_
  fin_cases a <;> simp [Rect.unit, ix4]

/-- Four rows of the rows' arrays. -/
theorem pieceRows (G : S28x256.Idx → F .f32) (o : ℕ) (ho : o < 28) (h4 : o % 4 = 0)
    (inb : ∀ a, (![o, 0] : Fin 2 → ℕ) a + (![4, 256] : Fin 2 → ℕ) a ≤ S28x256.size a)
    (w : S4x256.Idx → F .f32) (h : ∀ (k : Fin 4) (n : Fin 256), w (ix2 k n) = G (ix2 ⟨o + k.val, by omega⟩ n)) :
    ∀ x : S4x256.Idx, w x = G ((Rect.unit (s := S28x256) ![o, 0] ![4, 256] inb).emb x) := by
  intro x
  idx_vars x
  rw [h]
  congr 1
  symm
  refine Rect.emb_eq_of_coords _ _ _ fun a => ?_
  fin_cases a <;> simp [Rect.unit, ix2]

/-- One half of one bin's rows of the row matrix. -/
theorem pieceMat (G : S7x256x256.Idx → F .bf16) (p o : ℕ) (hp : p < 7) (ho : o ≤ 128)
    (inb : ∀ a, (![p, o, 0] : Fin 3 → ℕ) a + (![1, 128, 256] : Fin 3 → ℕ) a ≤ S7x256x256.size a)
    (w : S1x128x256.Idx → F .bf16) (h : ∀ (y : Fin 128) (n : Fin 256), w (ix3 0 y n) = G (ix3 ⟨p, hp⟩ ⟨o + y.val, by omega⟩ n)) :
    ∀ x : S1x128x256.Idx, w x = G ((Rect.unit (s := S7x256x256) ![p, o, 0] ![1, 128, 256] inb).emb x) := by
  intro x
  idx_vars x
  obtain rfl : x0 = 0 := Subsingleton.elim _ _
  rw [h]
  congr 1
  symm
  refine Rect.emb_eq_of_coords _ _ _ fun a => ?_
  fin_cases a <;> simp [Rect.unit, ix3]

variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x2 : Vec F S1x4x256 .f32)

/-- The boxes as the preparation loads them: the whole block. -/
theorem boxes_read (inb) :
    View.readAt (Elt F) arg4.view (Rect.unit (s := S1x4x256) ![0, 0, 0] S1x4x256.size inb).toLoadRect (harg4.unread x2) = x2 := by
  funext x
  rw [harg4.readAt_unread]
  idx_vars x
  congr 1
  funext a
  apply Fin.ext
  fin_cases a <;> simp [Rect.unit, Rect.toLoadRect, LoadRect.idx, ix3]

/-- The y axis's edge as the preparation computes it. -/
theorem edge_y (n : Fin 256) : edge (x2 (ix3 0 1 n)) = prepRun.sl.r_1 c arg4 harg4 x2 (ix2 0 n) := by
  unfold prepRun.sl.r_1 edge
  rw [boxes_read]
  pointwise [k0_pay3, k0_pay2]

/-- The y axis's bin as the preparation computes it. -/
theorem bin_y (n : Fin 256) : bin (x2 (ix3 0 1 n)) (x2 (ix3 0 3 n)) = prepRun.sl.r_2 c arg4 harg4 x2 (ix2 0 n) := by
  unfold prepRun.sl.r_2 bin edge
  rw [boxes_read]
  pointwise [k0_pay4, k0_pay3, k0_pay2]

/-- The boxes as the preparation keeps them. -/
theorem r_eq : prepRun.sl.r c arg4 harg4 x2 = k0_pay2 x2 := congrArg k0_pay2 (boxes_read arg4 harg4 x2 _)

/-- The x axis's edge as the preparation computes it. -/
theorem edge_x (n : Fin 256) : edge (x2 (ix3 0 0 n)) = prepRun.sl.r_77 c arg4 harg4 x2 (ix2 0 n) := by
  unfold prepRun.sl.r_77 edge
  rw [r_eq]
  unfold_payloads
  pointwise

/-- The x axis's bin as the preparation computes it. -/
theorem bin_x (n : Fin 256) : bin (x2 (ix3 0 0 n)) (x2 (ix3 0 2 n)) = prepRun.sl.r_78 c arg4 harg4 x2 (ix2 0 n) := by
  unfold prepRun.sl.r_78 bin edge
  rw [r_eq]
  unfold_payloads
  pointwise

/-- The y weights over the edge and the bin as the preparation computes them. -/
theorem wy_at (p : Fin 7) (k : Fin 4) (n : Fin 256) :
    wyOf x2 (ix4 0 p k n) = wgt yTop yLast (prepRun.sl.r_1 c arg4 harg4 x2 (ix2 0 n)) (prepRun.sl.r_2 c arg4 harg4 x2 (ix2 0 n)) p k := by
  rw [← edge_y, ← bin_y]; rfl

/-- The x weights over the edge and the bin as the preparation computes them. -/
theorem wx_at (p : Fin 7) (k : Fin 4) (n : Fin 256) :
    wxOf x2 (ix4 0 p k n) = wgt xTop xLast (prepRun.sl.r_77 c arg4 harg4 x2 (ix2 0 n)) (prepRun.sl.r_78 c arg4 harg4 x2 (ix2 0 n)) p k := by
  rw [← edge_x, ← bin_x]; rfl

/-- The x weights' rows over the edge and the bin as the preparation computes them. -/
theorem wxRows_at (o : ℕ) (h4 : o % 4 = 0) (ho : o < 28) (k : Fin 4) (n : Fin 256) :
    wxRows x2 (ix2 ⟨o + k.val, by omega⟩ n)
      = wgt xTop xLast (prepRun.sl.r_77 c arg4 harg4 x2 (ix2 0 n)) (prepRun.sl.r_78 c arg4 harg4 x2 (ix2 0 n)) ⟨o / 4, by omega⟩ k := by
  rw [← edge_x, ← bin_x]
  have hp : (⟨(o + k.val) / 4, by omega⟩ : Fin 7) = ⟨o / 4, by omega⟩ := Fin.ext (by show (o + k.val) / 4 = o / 4; omega)
  have hk : (⟨(o + k.val) % 4, by omega⟩ : Fin 4) = k := Fin.ext (by show (o + k.val) % 4 = k.val; omega)
  show wgt _ _ _ _ (⟨(o + k.val) / 4, _⟩ : Fin 7) (⟨(o + k.val) % 4, _⟩ : Fin 4) = _
  rw [hp, hk]; rfl

/-- The x elements' rows over the edge and the bin as the preparation computes them. -/
theorem ixRows_at (o : ℕ) (h4 : o % 4 = 0) (ho : o < 28) (k : Fin 4) (n : Fin 256) :
    ixRows x2 (ix2 ⟨o + k.val, by omega⟩ n)
      = ind xTop xLast (prepRun.sl.r_77 c arg4 harg4 x2 (ix2 0 n)) (prepRun.sl.r_78 c arg4 harg4 x2 (ix2 0 n)) ⟨o / 4, by omega⟩ k := by
  rw [← edge_x, ← bin_x]
  have hp : (⟨(o + k.val) / 4, by omega⟩ : Fin 7) = ⟨o / 4, by omega⟩ := Fin.ext (by show (o + k.val) / 4 = o / 4; omega)
  have hk : (⟨(o + k.val) % 4, by omega⟩ : Fin 4) = k := Fin.ext (by show (o + k.val) % 4 = k.val; omega)
  show ind _ _ _ _ (⟨(o + k.val) / 4, _⟩ : Fin 7) (⟨(o + k.val) % 4, _⟩ : Fin 4) = _
  rw [hp, hk]; rfl

/-- The row matrix's rounded half over the edge and the bin as the preparation computes them. -/
theorem yRows_hi (p : Fin 7) (y : Fin 128) (n : Fin 256) :
    yRows x2 (ix3 p ⟨0 + y.val, by omega⟩ n) = FloatOps.truncf .bf16 bitsLt_bf16_f32
      (hits yTop yLast (prepRun.sl.r_1 c arg4 harg4 x2 (ix2 0 n)) (prepRun.sl.r_2 c arg4 harg4 x2 (ix2 0 n)) p (FloatOps.sitofp .f32 (BitVec.ofNat 32 y.val))) := by
  rw [← edge_y, ← bin_y]
  have hy : 0 + y.val = y.val := Nat.zero_add _
  unfold yRows
  simp only [ix3_1, hy, if_pos y.isLt]
  rfl

/-- The row matrix's remainder half over the edge and the bin as the preparation computes them. -/
theorem yRows_lo (p : Fin 7) (y : Fin 128) (n : Fin 256) :
    yRows x2 (ix3 p ⟨128 + y.val, by omega⟩ n) = FloatOps.truncf .bf16 bitsLt_bf16_f32
      (FloatOps.subf (hits yTop yLast (prepRun.sl.r_1 c arg4 harg4 x2 (ix2 0 n)) (prepRun.sl.r_2 c arg4 harg4 x2 (ix2 0 n)) p (FloatOps.sitofp .f32 (BitVec.ofNat 32 y.val)))
        (FloatOps.extf .f32 bitsLt_bf16_f32 (FloatOps.truncf .bf16 bitsLt_bf16_f32
          (hits yTop yLast (prepRun.sl.r_1 c arg4 harg4 x2 (ix2 0 n)) (prepRun.sl.r_2 c arg4 harg4 x2 (ix2 0 n)) p (FloatOps.sitofp .f32 (BitVec.ofNat 32 y.val)))))) := by
  rw [← edge_y, ← bin_y]
  have hy : 128 + y.val - 128 = y.val := by omega
  have hn : ¬ (128 + y.val < 128) := by omega
  unfold yRows
  simp only [ix3_1, hy, if_neg hn]
  rfl

end Cert.KernelIdeal.Val

end
-- ==== Proof.Run.WeightPieces.lean ====
/- The pieces the preparation writes into the weight windows, in closed form. -/
module

public import proofs.«01_k».proof.Proof.Run.PieceKit

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x2 : Vec F S1x4x256 .f32)

set_option maxHeartbeats 4000000 in
/-- Every piece of the y weights is its part of `wyOf`. -/
theorem wy_pieces : ∀ pc ∈ (prepRun c i arg2 harg2 arg3 harg3 arg4 harg4 arg5 harg5 arg6 harg6 arg7 harg7 arg8 harg8 arg9 harg9 arg10 harg10 x2).1, ∀ x, pc.2 x = wyOf x2 (pc.1.emb x) := by
  unfold prepRun
  dsimp only
  repeat' refine List.forall_mem_cons.2 ⟨?_, ?_⟩
  all_goals first | exact List.forall_mem_nil _ | skip
  all_goals dsimp only
  all_goals
    refine piece4 (F := F) (wyOf x2) _ ?hp _ _ ?h
    case hp => decide
    case h =>
      intro k n
      refine Eq.trans ?_ (wy_at c arg4 harg4 x2 ⟨_, _⟩ k n).symm
      try simp only [prepRun.sl.r_167, prepRun.sl.r_168, prepRun.sl.r_172, prepRun.sl.r_176]
      unfold_payloads
      pointwise
      fin_vals k with hk
      all_goals
        obtain ⟨k, hk'⟩ := k
        obtain rfl := hk
        simp only [Nat.reduceSub, Nat.reduceLT, reduceDIte, reduceIte]
        rfl

set_option maxHeartbeats 4000000 in
/-- Every piece of the x weights is its part of `wxOf`. -/
theorem wx_pieces : ∀ pc ∈ (prepRun c i arg2 harg2 arg3 harg3 arg4 harg4 arg5 harg5 arg6 harg6 arg7 harg7 arg8 harg8 arg9 harg9 arg10 harg10 x2).2.1, ∀ x, pc.2 x = wxOf x2 (pc.1.emb x) := by
  unfold prepRun
  dsimp only
  repeat' refine List.forall_mem_cons.2 ⟨?_, ?_⟩
  all_goals first | exact List.forall_mem_nil _ | skip
  all_goals dsimp only
  all_goals
    refine piece4 (F := F) (wxOf x2) _ ?hp _ _ ?h
    case hp => decide
    case h =>
      intro k n
      refine Eq.trans ?_ (wx_at c arg4 harg4 x2 ⟨_, _⟩ k n).symm
      try simp only [prepRun.sl.r_167, prepRun.sl.r_168, prepRun.sl.r_172, prepRun.sl.r_176]
      unfold_payloads
      pointwise
      fin_vals k with hk
      all_goals
        obtain ⟨k, hk'⟩ := k
        obtain rfl := hk
        simp only [Nat.reduceSub, Nat.reduceLT, reduceDIte, reduceIte]
        rfl

end Cert.KernelIdeal.Val

end
-- ==== Proof.Run.RowPieces.lean ====
/- The pieces the preparation writes into the rows of x weights and x elements, in closed form. -/
module

public import proofs.«01_k».proof.Proof.Run.PieceKit

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x2 : Vec F S1x4x256 .f32)

set_option maxHeartbeats 4000000 in
/-- Every piece of the x weights' rows is its part of `wxRows`. -/
theorem wxRows_pieces : ∀ pc ∈ (prepRun c i arg2 harg2 arg3 harg3 arg4 harg4 arg5 harg5 arg6 harg6 arg7 harg7 arg8 harg8 arg9 harg9 arg10 harg10 x2).2.2.2.1, ∀ x, pc.2 x = wxRows x2 (pc.1.emb x) := by
  unfold prepRun
  dsimp only
  repeat' refine List.forall_mem_cons.2 ⟨?_, ?_⟩
  all_goals first | exact List.forall_mem_nil _ | skip
  all_goals dsimp only
  all_goals
    refine pieceRows (F := F) (wxRows x2) _ ?hp ?h4 _ _ ?h
    case hp => decide
    case h4 => decide
    case h =>
      intro k n
      refine Eq.trans ?_ (wxRows_at c arg4 harg4 x2 _ (by decide) (by decide) k n).symm
      try simp only [prepRun.sl.r_167, prepRun.sl.r_168, prepRun.sl.r_172, prepRun.sl.r_176]
      unfold_payloads
      pointwise
      fin_vals k with hk
      all_goals
        obtain ⟨k, hk'⟩ := k
        obtain rfl := hk
        simp only [Nat.reduceSub, Nat.reduceLT, reduceDIte, reduceIte]
        rfl

set_option maxHeartbeats 4000000 in
/-- Every piece of the x elements' rows is its part of `ixRows`. -/
theorem ixRows_pieces : ∀ pc ∈ (prepRun c i arg2 harg2 arg3 harg3 arg4 harg4 arg5 harg5 arg6 harg6 arg7 harg7 arg8 harg8 arg9 harg9 arg10 harg10 x2).2.2.2.2.1, ∀ x, pc.2 x = ixRows x2 (pc.1.emb x) := by
  unfold prepRun
  dsimp only
  repeat' refine List.forall_mem_cons.2 ⟨?_, ?_⟩
  all_goals first | exact List.forall_mem_nil _ | skip
  all_goals dsimp only
  all_goals
    refine pieceRows (F := F) (ixRows x2) _ ?hp ?h4 _ _ ?h
    case hp => decide
    case h4 => decide
    case h =>
      intro k n
      refine Eq.trans ?_ (ixRows_at c arg4 harg4 x2 _ (by decide) (by decide) k n).symm
      try simp only [prepRun.sl.r_167, prepRun.sl.r_168, prepRun.sl.r_172, prepRun.sl.r_176]
      unfold_payloads
      pointwise
      fin_vals k with hk
      all_goals
        obtain ⟨k, hk'⟩ := k
        obtain rfl := hk
        simp only [Nat.reduceSub, Nat.reduceLT, reduceDIte, reduceIte]
        rfl

end Cert.KernelIdeal.Val

end
-- ==== Proof.Run.MatPieces.lean ====
/- The pieces the preparation writes into the row matrix, in closed form. -/
module

public import proofs.«01_k».proof.Proof.Run.PieceKit

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x2 : Vec F S1x4x256 .f32)

set_option maxHeartbeats 4000000 in
/-- Every piece of the row matrix is its part of `yRows`. -/
theorem yRows_pieces : ∀ pc ∈ (prepRun c i arg2 harg2 arg3 harg3 arg4 harg4 arg5 harg5 arg6 harg6 arg7 harg7 arg8 harg8 arg9 harg9 arg10 harg10 x2).2.2.1, ∀ x, pc.2 x = yRows x2 (pc.1.emb x) := by
  unfold prepRun
  dsimp only
  repeat' refine List.forall_mem_cons.2 ⟨?_, ?_⟩
  all_goals first | exact List.forall_mem_nil _ | skip
  all_goals dsimp only
  all_goals
    refine pieceMat (F := F) (yRows x2) _ _ ?hp ?ho _ _ ?h
    case hp => decide
    case ho => decide
    case h =>
      intro y n
      refine Eq.trans ?_ (by first | exact (yRows_hi c arg4 harg4 x2 ⟨_, _⟩ y n).symm | exact (yRows_lo c arg4 harg4 x2 ⟨_, _⟩ y n).symm)
      try simp only [prepRun.sl.r_165, prepRun.sl.r_166, prepRun.sl.r_169, prepRun.sl.r_170, prepRun.sl.r_171, prepRun.sl.r_173, prepRun.sl.r_174, prepRun.sl.r_175, prepRun.sl.r_177, prepRun.sl.r_178]
      unfold_payloads
      pointwise
      rfl

end Cert.KernelIdeal.Val

end
-- ==== Proof.Run.PrepRead.lean ====
/- What the preparation leaves in its two windows and three scratch buffers, in closed form over the boxes. -/
module

public import proofs.«01_k».proof.Proof.Run.WeightPieces
public import proofs.«01_k».proof.Proof.Run.RowPieces
public import proofs.«01_k».proof.Proof.Run.MatPieces
public import Idealize.ShloMosaic.Lib.Ring
public import Idealize.ShloMosaic.Lib.Tactic

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

variable (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole) (x2 : Vec F S1x4x256 .f32)

/-- The preparation leaves the y weights in their window's buffer. -/
theorem wy_read (f : BufTy.Contents (Elt F) arg6.view.ty) :
    arg6.view.read (Elt F) (arg6.view.writes (Elt F) f (prepRun c i arg2 harg2 arg3 harg3 arg4 harg4 arg5 harg5 arg6 harg6 arg7 harg7 arg8 harg8 arg9 harg9 arg10 harg10 x2).1) = wyOf x2 := by
  funext y
  exact View.read_writes_apply_of_pieces _ _ _ _ (wy_pieces c i arg2 harg2 arg3 harg3 arg4 harg4 arg5 harg5 arg6 harg6 arg7 harg7 arg8 harg8 arg9 harg9 arg10 harg10 x2) y
    (View.cover_of_tiledL (prepRun c i arg2 harg2 arg3 harg3 arg4 harg4 arg5 harg5 arg6 harg6 arg7 harg7 arg8 harg8 arg9 harg9 arg10 harg10 x2).1 S1x1x4x256.size (by sl_kernel_rfl) y)

/-- The preparation leaves the x weights in their window's buffer. -/
theorem wx_read (f : BufTy.Contents (Elt F) arg7.view.ty) :
    arg7.view.read (Elt F) (arg7.view.writes (Elt F) f (prepRun c i arg2 harg2 arg3 harg3 arg4 harg4 arg5 harg5 arg6 harg6 arg7 harg7 arg8 harg8 arg9 harg9 arg10 harg10 x2).2.1) = wxOf x2 := by
  funext y
  exact View.read_writes_apply_of_pieces _ _ _ _ (wx_pieces c i arg2 harg2 arg3 harg3 arg4 harg4 arg5 harg5 arg6 harg6 arg7 harg7 arg8 harg8 arg9 harg9 arg10 harg10 x2) y
    (View.cover_of_tiledL (prepRun c i arg2 harg2 arg3 harg3 arg4 harg4 arg5 harg5 arg6 harg6 arg7 harg7 arg8 harg8 arg9 harg9 arg10 harg10 x2).2.1 S1x1x4x256.size (by sl_kernel_rfl) y)

/-- The preparation leaves the y weight rows in their scratch. -/
theorem yRows_read (f : BufTy.Contents (Elt F) arg8.view.ty) :
    arg8.view.read (Elt F) (arg8.view.writes (Elt F) f (prepRun c i arg2 harg2 arg3 harg3 arg4 harg4 arg5 harg5 arg6 harg6 arg7 harg7 arg8 harg8 arg9 harg9 arg10 harg10 x2).2.2.1) = yRows x2 := by
  funext y
  exact View.read_writes_apply_of_pieces _ _ _ _ (yRows_pieces c i arg2 harg2 arg3 harg3 arg4 harg4 arg5 harg5 arg6 harg6 arg7 harg7 arg8 harg8 arg9 harg9 arg10 harg10 x2) y
    (View.cover_of_tiledL (prepRun c i arg2 harg2 arg3 harg3 arg4 harg4 arg5 harg5 arg6 harg6 arg7 harg7 arg8 harg8 arg9 harg9 arg10 harg10 x2).2.2.1 S1x128x256.size (by sl_kernel_rfl) y)

/-- The preparation leaves the x weights' rows in their scratch. -/
theorem wxRows_read (f : BufTy.Contents (Elt F) arg9.view.ty) :
    arg9.view.read (Elt F) (arg9.view.writes (Elt F) f (prepRun c i arg2 harg2 arg3 harg3 arg4 harg4 arg5 harg5 arg6 harg6 arg7 harg7 arg8 harg8 arg9 harg9 arg10 harg10 x2).2.2.2.1) = wxRows x2 := by
  funext y
  exact View.read_writes_apply_of_pieces _ _ _ _ (wxRows_pieces c i arg2 harg2 arg3 harg3 arg4 harg4 arg5 harg5 arg6 harg6 arg7 harg7 arg8 harg8 arg9 harg9 arg10 harg10 x2) y
    (View.cover_of_tiledL (prepRun c i arg2 harg2 arg3 harg3 arg4 harg4 arg5 harg5 arg6 harg6 arg7 harg7 arg8 harg8 arg9 harg9 arg10 harg10 x2).2.2.2.1 S4x256.size (by sl_kernel_rfl) y)

/-- The preparation leaves the x elements' rows in their scratch. -/
theorem ixRows_read (f : BufTy.Contents (Elt F) arg10.view.ty) :
    arg10.view.read (Elt F) (arg10.view.writes (Elt F) f (prepRun c i arg2 harg2 arg3 harg3 arg4 harg4 arg5 harg5 arg6 harg6 arg7 harg7 arg8 harg8 arg9 harg9 arg10 harg10 x2).2.2.2.2.1) = ixRows x2 := by
  funext y
  exact View.read_writes_apply_of_pieces _ _ _ _ (ixRows_pieces c i arg2 harg2 arg3 harg3 arg4 harg4 arg5 harg5 arg6 harg6 arg7 harg7 arg8 harg8 arg9 harg9 arg10 harg10 x2) y
    (View.cover_of_tiledL (prepRun c i arg2 harg2 arg3 harg3 arg4 harg4 arg5 harg5 arg6 harg6 arg7 harg7 arg8 harg8 arg9 harg9 arg10 harg10 x2).2.2.2.2.1 S4x256.size (by sl_kernel_rfl) y)

end Cert.KernelIdeal.Val

end
-- ==== Proof.Run.Body.lean ====
/- The kernel's body on any staging buffers: what it leaves, in closed form. -/
module

public import proofs.«01_k».proof.Proof.Run.Cols
public import proofs.«01_k».proof.Proof.Run.Block
public import proofs.«01_k».proof.Proof.Run.PrepRead

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- THE COLUMNS, from any contents of their block's buffer: the block of gradients in it, the rest as it was. -/
theorem cols_triple (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole)
  (x0 : Vec F S1x7x7x160x256 .fp8e5m2) (x1 : Vec F S1x5x256 .f32) (xs0 : Vec F S7x256x256 .bf16) (xs1 xs2 : Vec F S28x256 .f32)
    (E : Set ℕ) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg8 fullShare xs0 ∗ owns (c : Thread nD τ) arg9 fullShare xs1 ∗ owns (c : Thread nD τ) arg10 fullShare xs2 ∗ (iprop(owns (c : Thread nD τ) arg2 fullShare x0 ∗ owns (c : Thread nD τ) arg3 fullShare x1 ∗ owns (c : Thread nD τ) arg5 fullShare (dxOf (BitVec.ofNat 32 (i 1).val) x0 x1 xs0 xs1 xs2) ∗ owns (c : Thread nD τ) arg8 fullShare xs0 ∗ owns (c : Thread nD τ) arg9 fullShare xs1 ∗ owns (c : Thread nD τ) arg10 fullShare xs2) -∗ K ⟨⟩))
      ⊢ wp frame (wpE (defs₀ (F := F)) Variants.none c none) E (colsProg i arg2 harg2 arg3 harg3 arg4 harg4 arg5 harg5 arg6 harg6 arg7 harg7 arg8 harg8 arg9 harg9 arg10 harg10) K := by
  iintro ⟨H0, H1, H3, HS0, HS1, HS2, Hk⟩
  iapply ((colsRun c i arg2 harg2 arg3 harg3 arg4 harg4 arg5 harg5 arg6 harg6 arg7 harg7 arg8 harg8 arg9 harg9 arg10 harg10 x0 x1 xs0 xs1 xs2).2 E K)
  isplitl [H0]; · iexact H0
  isplitl [H1]; · iexact H1
  isplitl [H3]; · iexact H3
  isplitl [HS0]; · iexact HS0
  isplitl [HS1]; · iexact HS1
  isplitl [HS2]; · iexact HS2
  iintro ⟨H0, H1, ⟨%f, H3⟩, HS0, HS1, HS2⟩
  iapply Hk
  isplitl [H0]; · iexact H0
  isplitl [H1]; · iexact H1
  isplitl [H3]
  · unfold owns; iexists _; isplitr
    swap; · iexact H3
    ipureintro; exact cols_read c i arg2 harg2 arg3 harg3 arg4 harg4 arg5 harg5 arg6 harg6 arg7 harg7 arg8 harg8 arg9 harg9 arg10 harg10 x0 x1 xs0 xs1 xs2 f
  isplitl [HS0]; · iexact HS0
  isplitl [HS1]; · iexact HS1
  iexact HS2

/-- THE BODY AT AN IMAGE'S FIRST POINT, from any contents of what it writes: the two weight windows, the scratch and
    the block of gradients, all in closed form over the blocks it reads. -/
theorem first_triple (c : Dev nD) (i : grid0.Coords)
  (arg2 : Memref sig .tc .vmem S1x7x7x160x256 .fp8e5m2) (harg2 : arg2.IsWhole)
  (arg3 : Memref sig .tc .vmem S1x5x256 .f32) (harg3 : arg3.IsWhole)
  (arg4 : Memref sig .tc .vmem S1x4x256 .f32) (harg4 : arg4.IsWhole)
  (arg5 : Memref sig .tc .vmem S1x8x160x100 .f32) (harg5 : arg5.IsWhole)
  (arg6 : Memref sig .tc .vmem S1x7x4x256 .f32) (harg6 : arg6.IsWhole)
  (arg7 : Memref sig .tc .vmem S1x7x4x256 .f32) (harg7 : arg7.IsWhole)
  (arg8 : Memref sig .tc .vmem S7x256x256 .bf16) (harg8 : arg8.IsWhole)
  (arg9 : Memref sig .tc .vmem S28x256 .f32) (harg9 : arg9.IsWhole)
  (arg10 : Memref sig .tc .vmem S28x256 .f32) (harg10 : arg10.IsWhole)
  (x0 : Vec F S1x7x7x160x256 .fp8e5m2) (x1 : Vec F S1x5x256 .f32) (x2 : Vec F S1x4x256 .f32) (h : cond0_0 i)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare (dxOf (BitVec.ofNat 32 (i 1).val) x0 x1 (yRows x2) (wxRows x2) (ixRows x2)) ∗ owns (c : Thread nD τ) arg6 fullShare (wyOf x2) ∗ owns (c : Thread nD τ) arg7 fullShare (wxOf x2) ∗ owns (c : Thread nD τ) arg8 fullShare (yRows x2) ∗ owns (c : Thread nD τ) arg9 fullShare (wxRows x2) ∗ owns (c : Thread nD τ) arg10 fullShare (ixRows x2)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  rw [body_first i arg2 harg2 arg3 harg3 arg4 harg4 arg5 harg5 arg6 harg6 arg7 harg7 arg8 harg8 arg9 harg9 arg10 harg10 h, wp_bind]
  iintro ⟨H0, H1, H2, H3, H4, H5, HS0, HS1, HS2, Hk⟩
  iapply ((prepRun c i arg2 harg2 arg3 harg3 arg4 harg4 arg5 harg5 arg6 harg6 arg7 harg7 arg8 harg8 arg9 harg9 arg10 harg10 x2).2.2.2.2.2 E _)
  isplitl [H2]; · iexact H2
  isplitl [H4]; · iexact H4
  isplitl [H5]; · iexact H5
  isplitl [HS0]; · iexact HS0
  isplitl [HS1]; · iexact HS1
  isplitl [HS2]; · iexact HS2
  iintro ⟨H2, ⟨%f4, H4⟩, ⟨%f5, H5⟩, ⟨%f8, HS0⟩, ⟨%f9, HS1⟩, ⟨%f10, HS2⟩⟩
  iapply (cols_triple c i arg2 harg2 arg3 harg3 arg4 harg4 arg5 harg5 arg6 harg6 arg7 harg7 arg8 harg8 arg9 harg9 arg10 harg10 x0 x1 (yRows x2) (wxRows x2) (ixRows x2) E K)
  isplitl [H0]; · iexact H0
  isplitl [H1]; · iexact H1
  isplitl [H3]; · iexact H3
  isplitl [HS0]
  · unfold owns; iexists _; isplitr
    swap; · iexact HS0
    ipureintro; exact yRows_read c i arg2 harg2 arg3 harg3 arg4 harg4 arg5 harg5 arg6 harg6 arg7 harg7 arg8 harg8 arg9 harg9 arg10 harg10 x2 f8
  isplitl [HS1]
  · unfold owns; iexists _; isplitr
    swap; · iexact HS1
    ipureintro; exact wxRows_read c i arg2 harg2 arg3 harg3 arg4 harg4 arg5 harg5 arg6 harg6 arg7 harg7 arg8 harg8 arg9 harg9 arg10 harg10 x2 f9
  isplitl [HS2]
  · unfold owns; iexists _; isplitr
    swap; · iexact HS2
    ipureintro; exact ixRows_read c i arg2 harg2 arg3 harg3 arg4 harg4 arg5 harg5 arg6 harg6 arg7 harg7 arg8 harg8 arg9 harg9 arg10 harg10 x2 f10
  iintro ⟨H0, H1, H3, HS0, HS1, HS2⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact wy_read c i arg2 harg2 arg3 harg3 arg4 harg4 arg5 harg5 arg6 harg6 arg7 harg7 arg8 harg8 arg9 harg9 arg10 harg10 x2 f4
  isplitl [H5]
  · unfold owns; iexists _; isplitr
    swap; · iexact H5
    ipureintro; exact wx_read c i arg2 harg2 arg3 harg3 arg4 harg4 arg5 harg5 arg6 harg6 arg7 harg7 arg8 harg8 arg9 harg9 arg10 harg10 x2 f5
  isplitl [HS0]; · iexact HS0
  isplitl [HS1]; · iexact HS1
  iexact HS2

end Cert.KernelIdeal.Val

end
-- ==== Proof.Run.Frame.lean ====
/- The run of the idealized kernel: the proof data with every output stated in closed form, the body obligation,
   the launch and the frame. -/
module

public import proofs.«01_k».proof.Proof.Run.Body
public import Idealize.ShloMosaic.Lib.Claim
public import Idealize.ShloMosaic.Lib.Pipeline.TableIdle

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region holds, point by point -/

/-- The boxes of the image of point `t`. -/
abbrev boxAt (c : Dev nD) (t : Fin cfg0.N) : Vec F S1x4x256 .f32 := iblk m c 2 t

/-- The block of gradients of point `t`. -/
abbrev dxAt (c : Dev nD) (t : Fin cfg0.N) : Vec F S1x8x160x100 .f32 :=
  dxOf (BitVec.ofNat 32 (grid0.coords t 1).val) (iblk m c 0 t) (iblk m c 1 t) (yRows (boxAt m c t)) (wxRows (boxAt m c t)) (ixRows (boxAt m c t))

/-- The region's invariant before position `n`: before the first point every scratch at anything; afterwards the scratch at
    the arrays of the boxes of the point before. -/
def PhiS (c : Dev nD) : (n : ℕ) → n ≤ cfg0.N → sProp 𝕄
  | 0, _ => Pipeline.ΦA spec0 c
  | n + 1, hn => iprop(iprop(owns (c : Thread nD τ) scM0_0 fullShare (yRows (boxAt m c ⟨n, hn⟩)) ∗ owns (c : Thread nD τ) scM0_1 fullShare (wxRows (boxAt m c ⟨n, hn⟩)) ∗ owns (c : Thread nD τ) scM0_2 fullShare (ixRows (boxAt m c ⟨n, hn⟩))) ∗ (∃ r, prngReg c r))

theorem PhiS_zero (c : Dev nD) (n : ℕ) (h : n ≤ cfg0.N) (hz : n = 0) : PhiS m c n h = Pipeline.ΦA spec0 c := by
  subst hz; rfl

/-- After point `n`: the scratch at that point's arrays. -/
theorem PhiS_succ (c : Dev nD) (t : Fin cfg0.N) :
    PhiS m c (t.val + 1) t.isLt = iprop(iprop(owns (c : Thread nD τ) scM0_0 fullShare (yRows (boxAt m c t)) ∗ owns (c : Thread nD τ) scM0_1 fullShare (wxRows (boxAt m c t)) ∗ owns (c : Thread nD τ) scM0_2 fullShare (ixRows (boxAt m c t))) ∗ (∃ r, prngReg c r)) := rfl

/-- The point before `t`. -/
abbrev prev (t : Fin cfg0.N) : Fin cfg0.N := ⟨t.val - 1, Nat.lt_of_le_of_lt (Nat.sub_le _ _) t.isLt⟩

/-- Before a point that is not the first: the scratch at the arrays of the point before. -/
theorem PhiS_pos (c : Dev nD) (t : Fin cfg0.N) (hz : t.val ≠ 0) :
    PhiS m c t.val (Nat.le_of_lt t.isLt) = iprop(iprop(owns (c : Thread nD τ) scM0_0 fullShare (yRows (boxAt m c (prev t))) ∗ owns (c : Thread nD τ) scM0_1 fullShare (wxRows (boxAt m c (prev t))) ∗ owns (c : Thread nD τ) scM0_2 fullShare (ixRows (boxAt m c (prev t)))) ∗ (∃ r, prngReg c r)) := by
  obtain ⟨n, hn⟩ := t
  cases n with
  | zero => exact absurd rfl hz
  | succ n => rfl

/-! ## The pipeline's proof data -/

/-- The proof data of the one pipeline on core `c`: the arrays as the region finds them; after the body at point `t` each
    input's buffer at its block, the gradients' at the point's block, the weights' at the weights of the image's boxes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxAt m c t
    | ⟨4, _⟩ => wyOf (boxAt m c t)
    | ⟨5, _⟩ => wxOf (boxAt m c t)
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = dxAt m c t := by dsimp only [dats]
theorem after0_4 (c : Dev nD) (t : Fin cfg0.N) : (dats m 0 c).after 4 t = wyOf (boxAt m c t) := by dsimp only [dats]
theorem after0_5 (c : Dev nD) (t : Fin cfg0.N) : (dats m 0 c).after 5 t = wxOf (boxAt m c t) := by dsimp only [dats]

/-! Each input's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Two points of one image have the same boxes. -/
theorem boxAt_prev (c : Dev nD) (t : Fin cfg0.N) (h0 : ¬t.val % 19 = 0) : boxAt m c (prev t) = boxAt m c t := by
  have hf : (cfg0.win 2).fetch t = false := by
    rw [← Bool.not_eq_true, fetch0_2 t]; exact h0
  have hb := before0_2 m c t (iblk m c 2 t)
  rw [(dats m 0 c).before_unfetched_in 2 rfl t hf (fun _ => rfl)] at hb
  unfold Pipeline.Dat.kept at hb
  rw [after0_2, Pipeline.fill_of_clip_none (cfg := cfg0) 2 _ (fun _ => rfl) _ (iblk m c 2 (prev t)), Pipeline.Window.fill_cut] at hb
  exact hb

/-- The weight windows are written at an image's first point only. -/
theorem live_first (t : Fin cfg0.N) (h0 : t.val % 19 = 0) : cfg0.idle 4 (grid0.coords t) = false ∧ cfg0.idle 5 (grid0.coords t) = false := by
  have h : k0_cond1 (grid0.coords t) = 1#1 := (hcond0_0 t).mpr h0
  constructor <;> (show (!(k0_cond1 (grid0.coords t) == 1#1)) = false; rw [h]; rfl)

theorem idle_later (t : Fin cfg0.N) (h0 : ¬t.val % 19 = 0) : cfg0.idle 4 (grid0.coords t) = true ∧ cfg0.idle 5 (grid0.coords t) = true := by
  have h : ¬k0_cond1 (grid0.coords t) = 1#1 := fun h => h0 ((hcond0_0 t).mp h)
  constructor <;> (show (!(k0_cond1 (grid0.coords t) == 1#1)) = true; rw [beq_eq_false_iff_ne.mpr h]; rfl)

theorem idle_iff (t : Fin cfg0.N) (w : Fin cfg0.W) (hw : w = 4 ∨ w = 5) (h : cfg0.idle w (grid0.coords t) = true) : ¬t.val % 19 = 0 := by
  intro h0
  rcases hw with rfl | rfl
  · rw [(live_first t h0).1] at h; exact Bool.false_ne_true h
  · rw [(live_first t h0).2] at h; exact Bool.false_ne_true h

/-- At a later point of an image the weight windows' buffers have been written since the last write-back. -/
theorem fresh_later (w : Fin cfg0.W) (hw : w = 4 ∨ w = 5) : ∀ n : ℕ, n < cfg0.N → ¬n % 19 = 0 → cfg0.fresh w n = false
  | 0, _, h => absurd rfl h
  | n + 1, hn, h => by
    have hN : n < cfg0.N := by omega
    rw [Pipeline.Cfg.fresh_succ cfg0 w n hN]
    have hfl : (cfg0.win w).flush ⟨n, hN⟩ = false := by
      rcases hw with rfl | rfl
      · rw [← Bool.not_eq_true, flush0_4]; show ¬n % 19 = 18; omega
      · rw [← Bool.not_eq_true, flush0_5]; show ¬n % 19 = 18; omega
    rw [hfl, Bool.false_or]
    by_cases h0 : n % 19 = 0
    · rcases hw with rfl | rfl
      · rw [(live_first ⟨n, hN⟩ h0).1, Bool.false_and]
      · rw [(live_first ⟨n, hN⟩ h0).2, Bool.false_and]
    · rw [fresh_later w hw n hN h0, Bool.and_false]

/-- At a later point of an image the weight windows' buffers still hold the image's weights. -/
theorem before0_4 (c : Dev nD) (t : Fin cfg0.N) (h0 : ¬t.val % 19 = 0) (d) : (dats m 0 c).before 4 t d = wyOf (boxAt m c t) := by
  rw [(dats m 0 c).before_out_traj 4 rfl (fun _ _ => rfl) (fun t ht hi _ => by
    rw [after0_4, after0_4, boxAt_prev m c t (idle_iff t 4 (.inl rfl) hi)]) t.val t rfl d,
    fresh_later 4 (.inl rfl) t.val t.isLt h0, if_neg Bool.false_ne_true, after0_4, boxAt_prev m c t h0]
theorem before0_5 (c : Dev nD) (t : Fin cfg0.N) (h0 : ¬t.val % 19 = 0) (d) : (dats m 0 c).before 5 t d = wxOf (boxAt m c t) := by
  rw [(dats m 0 c).before_out_traj 5 rfl (fun _ _ => rfl) (fun t ht hi _ => by
    rw [after0_5, after0_5, boxAt_prev m c t (idle_iff t 5 (.inr rfl) hi)]) t.val t rfl d,
    fresh_later 5 (.inr rfl) t.val t.isLt h0, if_neg Bool.false_ne_true, after0_5, boxAt_prev m c t h0]

/-- At a later point the weights found there are what the point is to leave. -/
theorem leaves4_later (c : Dev nD) (t : Fin cfg0.N) (h0 : ¬t.val % 19 = 0) :
    owns (c : Thread nD τ) (ms0_4 t) fullShare (wyOf (boxAt m c t)) ⊢ (dats m 0 c).leavesExact 4 t := by
  unfold Dat.leavesExact
  rw [(idle_later t h0).1]
  cases hf : (cfg0.win 4).flush t
  · dsimp only
    iintro H
    iexists (wyOf (boxAt m c t))
    rw [before0_4 m c t h0]
    iexact H
  · dsimp only
    rw [after0_4]
    try exact Idealize.SL.BI.Entails.refl _
theorem leaves5_later (c : Dev nD) (t : Fin cfg0.N) (h0 : ¬t.val % 19 = 0) :
    owns (c : Thread nD τ) (ms0_5 t) fullShare (wxOf (boxAt m c t)) ⊢ (dats m 0 c).leavesExact 5 t := by
  unfold Dat.leavesExact
  rw [(idle_later t h0).2]
  cases hf : (cfg0.win 5).flush t
  · dsimp only
    iintro H
    iexists (wxOf (boxAt m c t))
    rw [before0_5 m c t h0]
    iexact H
  · dsimp only
    rw [after0_5]
    try exact Idealize.SL.BI.Entails.refl _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Window 0 is left at its contents. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
/-- Window 1 is left at its contents. -/
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
/-- Window 2 is left at its contents. -/
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
/-- Window 3 is left at its contents. -/
theorem leaves0_3 (c : Dev nD) (t : Fin cfg0.N) : (dats m 0 c).leavesExact 3 t = owns (c : Thread nD τ) (ms0_3 t) fullShare (dxAt m c t) := by
  unfold Dat.leavesExact; rw [show cfg0.idle 3 (grid0.coords t) = false from rfl, after0_3]
/-- Window 4 is left at the image's weights by the first point. -/
theorem leaves0_4 (c : Dev nD) (t : Fin cfg0.N) (h0 : t.val % 19 = 0) : (dats m 0 c).leavesExact 4 t = owns (c : Thread nD τ) (ms0_4 t) fullShare (wyOf (boxAt m c t)) := by
  unfold Dat.leavesExact; rw [(live_first t h0).1, after0_4]
/-- Window 5 is left at the image's weights by the first point. -/
theorem leaves0_5 (c : Dev nD) (t : Fin cfg0.N) (h0 : t.val % 19 = 0) : (dats m 0 c).leavesExact 5 t = owns (c : Thread nD τ) (ms0_5 t) fullShare (wxOf (boxAt m c t)) := by
  unfold Dat.leavesExact; rw [(live_first t h0).2, after0_5]

/-- At any point the invariant gives the scratch, its contents forgotten. -/
theorem Phi_any (c : Dev nD) (t : Fin cfg0.N) : (dats m 0 c).Φ t.castSucc ⊢ Pipeline.ΦA spec0 c := by
  by_cases hz : t.val = 0
  · rw [PhiS_castSucc m c t, PhiS_zero m c _ _ hz]
    try exact Idealize.SL.BI.Entails.refl _
  · rw [PhiS_castSucc m c t, PhiS_pos m c t hz, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The body at an image's first point, from the scratch at anything. -/
theorem sound_first_any (c : Dev nD) (t : Fin cfg0.N) (h0 : t.val % 19 = 0) :
    iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))) ⊢ wp frame (wpE (defs₀ (F := F)) Variants.none c none) Set.univ (bodyAt0 t) (fun _ => bodyPost m c t) := by
  unfold bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4 m c t h0, leaves0_5 m c t h0]
  rw [PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (first_triple c (grid0.coords t) _ _ _ _ _ _ _ _ _ _ _ _ _ _ _ _ _ _ (iblk m c 0 t) (iblk m c 1 t) (iblk m c 2 t) ((hcond0_0 t).mpr h0) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at an image's first point. -/
theorem sound_first (c : Dev nD) (t : Fin cfg0.N) (h0 : t.val % 19 = 0) :
    bodyPre m c t ⊢ wp frame (wpE (defs₀ (F := F)) Variants.none c none) Set.univ (bodyAt0 t) (fun _ => bodyPost m c t) :=
  Idealize.SL.BI.Entails.trans (Laws.sep_mono (Phi_any m c t) (Idealize.SL.BI.Entails.refl _)) (sound_first_any m c t h0)

/-- The body at an image's other points. -/
theorem sound_later (c : Dev nD) (t : Fin cfg0.N) (h0 : ¬t.val % 19 = 0) :
    bodyPre m c t ⊢ wp frame (wpE (defs₀ (F := F)) Variants.none c none) Set.univ (bodyAt0 t) (fun _ => bodyPost m c t) := by
  have hz : t.val ≠ 0 := by intro h; rw [h] at h0; exact h0 rfl
  unfold bodyPre bodyPost bodyAt0
  simp only [before0_0, before0_1, before0_2, before0_4 m c t h0, before0_5 m c t h0]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [PhiS_castSucc m c t, PhiS_pos m c t hz, boxAt_prev m c t h0]
  rw [body_later _ _ _ _ _ _ _ _ _ _ _ _ _ _ _ _ _ _ _ (fun h => h0 ((hcond0_0 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (cols_triple c (grid0.coords t) _ _ _ _ _ _ _ _ _ _ _ _ _ _ _ _ _ _ (iblk m c 0 t) (iblk m c 1 t) _ _ _ Set.univ _)
  isplitl [H0]; · iexact H0
  isplitl [H1]; · iexact H1
  isplitl [H3]; · iexists _; iexact H3
  isplitl [HS0]; · iexact HS0
  isplitl [HS1]; · iexact HS1
  isplitl [HS2]; · iexact HS2
  iintro ⟨H0, H1, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]
  · iapply (leaves4_later m c t h0); iexact H4
  iapply (leaves5_later m c t h0); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 19 = 0
  · exact sound_first m c t h0
  · exact sound_later m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ Pipeline.ΦA spec0 c := by
  have hN : cfg0.N = 456 := N_0
  have h : (dats m 0 c).Φ (Fin.last cfg0.N) = PhiS m c ((⟨455, by omega⟩ : Fin cfg0.N).val + 1) (by show 455 + 1 ≤ cfg0.N; omega) := by
    rw [show (dats m 0 c).Φ (Fin.last cfg0.N) = PhiS m c cfg0.N (le_refl _) from rfl]
    congr 1
  rw [h, PhiS_succ m c ⟨455, by omega⟩, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
set_option maxHeartbeats 800000 in
/-- THE LAUNCH: every array of the pipeline at what the proof data say, every other buffer as the lines after the region
    leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- THE FRAME: the argument arrays end unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.Value.Axis.lean ====
/- One axis of one box in exact arithmetic: the reference finds the elements of a sampling position in whole numbers, the
   kernel in floats, and here the two agree; the weights are finite and not negative. -/
module

public import proofs.«01_k».proof.Proof.Run.Closed
public import Idealize.ShloMosaic.Lib.IdealHost
public import Idealize.ShloMosaic.Lib.WordCmp
public import Idealize.ShloMosaic.Lib.Pointwise

@[expose] public section

set_option maxRecDepth 16384

noncomputable section

namespace Cert.Value

open Idealize.ShloMosaic Idealize.ShloMosaic.Tactic
open Cert.KernelIdeal.Val

/-! ## The constants -/

theorem ofBits_99 : Ideal.ofBits .f32 yLast = ((99 : ℕ) : EReal) := by
  rw [show ((99 : ℕ) : EReal) = ((99 : ℝ) : EReal) by norm_cast]
  simp [yLast, Ideal.ofBits, Ideal.ieee, -EReal.coe_mul]; norm_num

theorem ofBits_100 : Ideal.ofBits .f32 yTop = ((99 + 1 : ℕ) : EReal) := by
  rw [show ((99 + 1 : ℕ) : EReal) = ((100 : ℝ) : EReal) by norm_cast]
  simp [yTop, Ideal.ofBits, Ideal.ieee, -EReal.coe_mul]; norm_num

theorem ofBits_151 : Ideal.ofBits .f32 xLast = ((151 : ℕ) : EReal) := by
  rw [show ((151 : ℕ) : EReal) = ((151 : ℝ) : EReal) by norm_cast]
  simp [xLast, Ideal.ofBits, Ideal.ieee, -EReal.coe_mul]; norm_num

theorem ofBits_152 : Ideal.ofBits .f32 xTop = ((151 + 1 : ℕ) : EReal) := by
  rw [show ((151 + 1 : ℕ) : EReal) = ((152 : ℝ) : EReal) by norm_cast]
  simp [xTop, Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_inf : Ideal.ofBits .f32 0x7F800000#32 = ⊤ := by
  simp [Ideal.ofBits, Ideal.ieee]

theorem ofBits_nan : Ideal.ofBits .f32 0x7FC00000#32 = ⊥ := by
  simp [Ideal.ofBits, Ideal.ieee]

/-- The word of a bin's number is that number. -/
theorem ofBits_binWord (p : Fin 7) : Ideal.ofBits .f32 (binWord p) = (((BitVec.ofNat 32 p.val).toInt : ℝ) : EReal) := by
  fin_cases p <;> simp [binWord, Ideal.ofBits, Ideal.ieee, -EReal.coe_mul] <;> norm_num

/-- The word of a sample's number and a half is that. -/
theorem ofBits_halfWord (i : Fin 2) : Ideal.ofBits .f32 (halfWord i) = (((BitVec.ofNat 32 i.val).toInt : ℝ) : EReal) + Ideal.ofBits .f32 0x3F000000#32 := by
  rw [ofBits_half, ← EReal.coe_add]
  fin_cases i <;> simp [halfWord, Ideal.ofBits, Ideal.ieee, -EReal.coe_mul, -EReal.coe_add] <;> norm_num

/-! ## The reference's scalars -/

/-- The whole part of a position moved up to the first element. -/
def whole (z : EReal) : BitVec 32 := Ideal.fptosi 32 (Ideal.liftRound Int.floor (max z 0))

/-- The lower element as a whole number, `L` the last element. -/
def lowW (L : BitVec 32) (z : EReal) : BitVec 32 := Scalar.select (IntOp.cmpi .sge (whole z) L) L (whole z)

/-- The upper element as a whole number. -/
def highW (L : BitVec 32) (z : EReal) : BitVec 32 := Scalar.select (IntOp.cmpi .sge (whole z) L) L (IntOp.addi (lowW L z) 1#32)

/-- A whole number as an extended real. -/
def num (w : BitVec 32) : EReal := ((w.toInt : ℝ) : EReal)

/-- The distance from the lower element. -/
def fracW (L : BitVec 32) (z : EReal) : EReal :=
  Scalar.select (IntOp.cmpi .sge (whole z) L) (num (lowW L z)) (max z 0) - num (lowW L z)

/-- The weight of the lower element. -/
def lowWtW (top L : BitVec 32) (z : EReal) : EReal := Scalar.select (valid (F := Ideal) top top z) (1 - fracW L z) (Ideal.ofBits .f32 0x00000000#32)

/-- The weight of the upper element. -/
def highWtW (top L : BitVec 32) (z : EReal) : EReal := Scalar.select (valid (F := Ideal) top top z) (fracW L z) (Ideal.ofBits .f32 0x00000000#32)

/-- A sampling position, the bin's and the sample's numbers being whole numbers converted. -/
def posW (lo hi : EReal) (p : Fin 7) (i : Fin 2) : EReal :=
  edge (F := Ideal) lo + num (BitVec.ofNat 32 p.val) * bin (F := Ideal) lo hi
    + Ideal.div ((num (BitVec.ofNat 32 i.val) + Ideal.ofBits .f32 0x3F000000#32) * bin (F := Ideal) lo hi) (Ideal.ofBits .f32 0x40000000#32)

/-- The four weights of bin `p`. -/
def wgtW (top L : BitVec 32) (lo hi : EReal) (p : Fin 7) (k : Fin 4) : EReal :=
  if k.val % 2 < 1 then lowWtW top L (posW lo hi p ⟨k.val / 2, by omega⟩) else highWtW top L (posW lo hi p ⟨k.val / 2, by omega⟩)

/-- The four elements of bin `p`. -/
def indW (L : BitVec 32) (lo hi : EReal) (p : Fin 7) (k : Fin 4) : BitVec 32 :=
  if k.val % 2 < 1 then lowW L (posW lo hi p ⟨k.val / 2, by omega⟩) else highW L (posW lo hi p ⟨k.val / 2, by omega⟩)

theorem posW_eq (lo hi : EReal) (p : Fin 7) (i : Fin 2) : posW lo hi p i = pos (F := Ideal) (edge (F := Ideal) lo) (bin (F := Ideal) lo hi) p i := by
  unfold posW pos
  show _ = edge (F := Ideal) lo + Ideal.ofBits .f32 (binWord p) * bin (F := Ideal) lo hi
    + Ideal.div (Ideal.ofBits .f32 (halfWord i) * bin (F := Ideal) lo hi) (Ideal.ofBits .f32 0x40000000#32)
  rw [ofBits_binWord, ofBits_halfWord]
  rfl

theorem num_ofNat {k : ℕ} (h : k < 2147483648) : num (BitVec.ofNat 32 k) = ((k : ℕ) : EReal) := by
  unfold num
  have e : (BitVec.ofNat 32 k).toNat = k := by rw [BitVec.toNat_ofNat]; exact Nat.mod_eq_of_lt (by omega)
  rw [BitVec.toInt_eq_toNat_of_lt (by rw [e]; omega), e]
  norm_cast

/-- What the position comes down to: its whole part `m`, exact or above the given bound `n`. -/
theorem whole_spec {n : ℕ} (hn : n < 1000) (z : EReal) : ∃ m : ℕ, m < 2147483648 ∧ whole z = BitVec.ofNat 32 m ∧
    ((∃ r : ℝ, 0 ≤ r ∧ max z 0 = (r : EReal) ∧ (m : ℝ) ≤ r ∧ r < m + 1 ∧ Ideal.liftRound Int.floor (max z 0) = ((m : ℕ) : EReal))
      ∨ (n < m ∧ ((n + 1 : ℕ) : EReal) ≤ Ideal.liftRound Int.floor (max z 0))) := by
  unfold whole
  have h0 : (0 : EReal) ≤ max z 0 := le_max_right _ _
  generalize max z 0 = c at h0
  induction c using EReal.rec with
  | bot => simp at h0
  | top => exact ⟨2147483647, by norm_num, by rw [Ideal.fptosi, Ideal.liftRound_top, Ideal.toIntClamped_top]; rfl, Or.inr ⟨by omega, le_top⟩⟩
  | coe r =>
    have hr : 0 ≤ r := by exact_mod_cast h0
    have hf : 0 ≤ ⌊r⌋ := Int.floor_nonneg.2 hr
    obtain ⟨m, hm⟩ := Int.eq_ofNat_of_zero_le hf
    have hfr : (⌊r⌋ : ℝ) = m := by rw [hm]; norm_cast
    have hle : (m : ℝ) ≤ r := hfr ▸ Int.floor_le r
    have hlt : r < m + 1 := hfr ▸ Int.lt_floor_add_one r
    have hw : Ideal.fptosi 32 (Ideal.liftRound Int.floor (r : EReal)) = BitVec.ofInt 32 (max (-2147483648) (min 2147483647 (m : ℤ))) := by
      simp only [Ideal.fptosi, Ideal.liftRound_coe, Ideal.toIntClamped_coe, hm]
      rw [if_pos (by positivity), show ⌊(((m : ℕ) : ℤ) : ℝ)⌋ = (m : ℤ) from Int.floor_intCast _]
      norm_num
    by_cases hb : m < 2147483648
    · refine ⟨m, hb, ?_, Or.inl ⟨r, hr, rfl, hle, hlt, ?_⟩⟩
      · rw [hw, min_eq_right (by omega), max_eq_right (by omega)]
        exact BitVec.ofInt_natCast 32 m
      · rw [Ideal.liftRound_coe, hm]; norm_cast
    · refine ⟨2147483647, by norm_num, ?_, Or.inr ⟨by omega, ?_⟩⟩
      · rw [hw, min_eq_left (by omega), max_eq_right (by norm_num)]
        rfl
      · rw [Ideal.liftRound_coe, hm]
        have : ((n + 1 : ℕ) : EReal) ≤ ((m : ℕ) : EReal) := Nat.cast_le.2 (by omega)
        exact this.trans (le_of_eq (by norm_cast))

/-! ## The two agree -/

variable {top last : BitVec 32} {n : ℕ}

/-- Everything about one position at once: the element `k`, found alike, and the weights. -/
theorem axis_spec (hn : n < 1000) (htop : Ideal.ofBits .f32 top = ((n + 1 : ℕ) : EReal)) (hlast : Ideal.ofBits .f32 last = ((n : ℕ) : EReal)) (z : EReal) :
    ∃ k k' : ℕ, k ≤ n ∧ k' ≤ n ∧ lowW (BitVec.ofNat 32 n) z = BitVec.ofNat 32 k ∧ highW (BitVec.ofNat 32 n) z = BitVec.ofNat 32 k'
      ∧ lowIx (F := Ideal) top last z = ((k : ℕ) : EReal) ∧ highIx (F := Ideal) top last z = ((k' : ℕ) : EReal)
      ∧ frac (F := Ideal) top last z = fracW (BitVec.ofNat 32 n) z
      ∧ ∃ f : ℝ, 0 ≤ f ∧ f ≤ 1 ∧ fracW (BitVec.ofNat 32 n) z = (f : EReal) := by
  obtain ⟨m, hm, hw, h⟩ := whole_spec hn z
  have hc : IntOp.cmpi .sge (whole z) (BitVec.ofNat 32 n) = BitVec.ofBool (decide (n ≤ m)) := by
    rw [hw, WordCmp.cmpi_sge_ofNat (by norm_num; omega) (by norm_num; omega)]
  have hb : base (F := Ideal) top last z = min (Ideal.liftRound Int.floor (max z 0)) ((n + 1 : ℕ) : EReal) := by
    unfold base clampLo
    show min (Ideal.liftRound Int.floor (max z (Ideal.ofBits .f32 0x00000000#32))) (Ideal.ofBits .f32 top) = _
    rw [Ideal.ofBits_zero_f32, htop]
  have ha : atEnd (F := Ideal) top last z = BitVec.ofBool (decide (n ≤ m)) := by
    unfold atEnd
    rw [hb]
    show Ideal.cmp .oge _ (Ideal.ofBits .f32 last) = _
    rw [hlast, Ideal.cmp_oge]
    refine congrArg BitVec.ofBool (decide_eq_decide.2 ?_)
    rw [le_min_iff]
    rcases h with ⟨r, _, _, _, _, hfl⟩ | ⟨hm', hfl⟩
    · rw [hfl, Nat.cast_le, Nat.cast_le]
      omega
    · have h1 : ((n : ℕ) : EReal) ≤ Ideal.liftRound Int.floor (max z 0) := le_trans (Nat.cast_le.2 (by omega)) hfl
      rw [Nat.cast_le]
      exact ⟨fun _ => by omega, fun _ => ⟨h1, by omega⟩⟩
  have hcl : clampLo (F := Ideal) z = max z 0 := by
    unfold clampLo
    show max z (Ideal.ofBits .f32 0x00000000#32) = _
    rw [Ideal.ofBits_zero_f32]
  by_cases hnm : n ≤ m
  · have e1 : lowW (BitVec.ofNat 32 n) z = BitVec.ofNat 32 n := by
      unfold lowW; rw [hc, WordCmp.select_decide, if_pos hnm]
    have e2 : lowIx (F := Ideal) top last z = ((n : ℕ) : EReal) := by
      unfold lowIx; rw [ha, WordCmp.select_decide, if_pos hnm]; exact hlast
    have e3 : fracW (BitVec.ofNat 32 n) z = ((0 : ℝ) : EReal) := by
      unfold fracW; rw [hc, WordCmp.select_decide, if_pos hnm, e1, num_ofNat (by omega)]
      rw [show ((n : ℕ) : EReal) = ((n : ℝ) : EReal) by norm_cast, ← EReal.coe_sub, sub_self]
    refine ⟨n, n, le_rfl, le_rfl, e1, ?_, e2, ?_, ?_, 0, le_rfl, zero_le_one, e3⟩
    · unfold highW; rw [hc, WordCmp.select_decide, if_pos hnm]
    · unfold highIx; rw [ha, WordCmp.select_decide, if_pos hnm]; exact hlast
    · rw [e3]; unfold frac; rw [ha, WordCmp.select_decide, if_pos hnm, e2]
      show ((n : ℕ) : EReal) - ((n : ℕ) : EReal) = _
      rw [show ((n : ℕ) : EReal) = ((n : ℝ) : EReal) by norm_cast, ← EReal.coe_sub, sub_self]
  · rcases h with ⟨r, hr0, hr, hle, hlt, hfl⟩ | ⟨hm', _⟩
    swap
    · omega
    have e1 : lowW (BitVec.ofNat 32 n) z = BitVec.ofNat 32 m := by
      unfold lowW; rw [hc, WordCmp.select_decide, if_neg hnm, hw]
    have e2 : lowIx (F := Ideal) top last z = ((m : ℕ) : EReal) := by
      unfold lowIx; rw [ha, WordCmp.select_decide, if_neg hnm, hb, hfl]
      exact min_eq_left (by exact_mod_cast (by omega : m ≤ n + 1))
    have e3 : fracW (BitVec.ofNat 32 n) z = ((r - m : ℝ) : EReal) := by
      unfold fracW; rw [hc, WordCmp.select_decide, if_neg hnm, e1, num_ofNat (by omega), hr]
      rw [show ((m : ℕ) : EReal) = ((m : ℝ) : EReal) by norm_cast, ← EReal.coe_sub]
    refine ⟨m, m + 1, by omega, by omega, e1, ?_, e2, ?_, ?_, r - m, by linarith, by linarith, e3⟩
    · unfold highW; rw [hc, WordCmp.select_decide, if_neg hnm, e1]
      show BitVec.ofNat 32 m + 1#32 = _
      rw [BitVec.ofNat_add]
    · unfold highIx; rw [ha, WordCmp.select_decide, if_neg hnm, e2]
      show ((m : ℕ) : EReal) + Ideal.ofBits .f32 0x3F800000#32 = _
      rw [Ideal.ofBits_one_f32]; norm_cast
    · rw [e3]; unfold frac; rw [ha, WordCmp.select_decide, if_neg hnm, e2, hcl, hr]
      show (r : EReal) - ((m : ℕ) : EReal) = _
      rw [show ((m : ℕ) : EReal) = ((m : ℝ) : EReal) by norm_cast, ← EReal.coe_sub]

/-- A weight lies between 0 and 1: it is a real number, not negative. -/
def Unit01 (w : EReal) : Prop := ∃ f : ℝ, 0 ≤ f ∧ w = (f : EReal)

theorem unit01_select (c : BitVec 1) {w : EReal} (h : Unit01 w) : Unit01 (Scalar.select c w (Ideal.ofBits .f32 0x00000000#32)) := by
  unfold Scalar.select
  split
  · exact h
  · exact ⟨0, le_rfl, by rw [Ideal.ofBits_zero_f32]; rfl⟩

/-- The kernel's weights are the reference's. -/
theorem wgt_eq (hn : n < 1000) (htop : Ideal.ofBits .f32 top = ((n + 1 : ℕ) : EReal)) (hlast : Ideal.ofBits .f32 last = ((n : ℕ) : EReal))
    (lo hi : EReal) (p : Fin 7) (k : Fin 4) :
    wgt (F := Ideal) top last (edge (F := Ideal) lo) (bin (F := Ideal) lo hi) p k = wgtW top (BitVec.ofNat 32 n) lo hi p k := by
  have hl : ∀ z, lowWt (F := Ideal) top last z = lowWtW top (BitVec.ofNat 32 n) z := fun z => by
    obtain ⟨_, _, _, _, _, _, _, _, e, _⟩ := axis_spec hn htop hlast z
    unfold lowWt lowWtW
    rw [e]
    show Scalar.select _ (Ideal.ofBits .f32 0x3F800000#32 - fracW (BitVec.ofNat 32 n) z) (Ideal.ofBits .f32 0x00000000#32) = _
    rw [Ideal.ofBits_one_f32]
    rfl
  have hh : ∀ z, highWt (F := Ideal) top last z = highWtW top (BitVec.ofNat 32 n) z := fun z => by
    obtain ⟨_, _, _, _, _, _, _, _, e, _⟩ := axis_spec hn htop hlast z
    unfold highWt highWtW
    rw [e]
    rfl
  unfold wgt wgtW
  simp only [posW_eq, hl, hh]
  fin_cases k <;> rfl

/-- The kernel's elements are the reference's, one below the axis's extent. -/
theorem ind_eq (hn : n < 1000) (htop : Ideal.ofBits .f32 top = ((n + 1 : ℕ) : EReal)) (hlast : Ideal.ofBits .f32 last = ((n : ℕ) : EReal))
    (lo hi : EReal) (p : Fin 7) (k : Fin 4) :
    ∃ j : ℕ, j ≤ n ∧ indW (BitVec.ofNat 32 n) lo hi p k = BitVec.ofNat 32 j
      ∧ ind (F := Ideal) top last (edge (F := Ideal) lo) (bin (F := Ideal) lo hi) p k = ((j : ℕ) : EReal) := by
  unfold indW ind
  simp only [posW_eq]
  fin_cases k
  · obtain ⟨j, _, h1, _, h2, _, h3, _⟩ := axis_spec hn htop hlast (pos (F := Ideal) (edge (F := Ideal) lo) (bin (F := Ideal) lo hi) p 0)
    exact ⟨j, h1, h2, h3⟩
  · obtain ⟨_, j, _, h1, _, h2, _, h3, _⟩ := axis_spec hn htop hlast (pos (F := Ideal) (edge (F := Ideal) lo) (bin (F := Ideal) lo hi) p 0)
    exact ⟨j, h1, h2, h3⟩
  · obtain ⟨j, _, h1, _, h2, _, h3, _⟩ := axis_spec hn htop hlast (pos (F := Ideal) (edge (F := Ideal) lo) (bin (F := Ideal) lo hi) p 1)
    exact ⟨j, h1, h2, h3⟩
  · obtain ⟨_, j, _, h1, _, h2, _, h3, _⟩ := axis_spec hn htop hlast (pos (F := Ideal) (edge (F := Ideal) lo) (bin (F := Ideal) lo hi) p 1)
    exact ⟨j, h1, h2, h3⟩

/-- The weights are real numbers, not negative. -/
theorem wgtW_unit (hn : n < 1000) (htop : Ideal.ofBits .f32 top = ((n + 1 : ℕ) : EReal)) (hlast : Ideal.ofBits .f32 last = ((n : ℕ) : EReal))
    (lo hi : EReal) (p : Fin 7) (k : Fin 4) : Unit01 (wgtW top (BitVec.ofNat 32 n) lo hi p k) := by
  have hf : ∀ z, Unit01 (fracW (BitVec.ofNat 32 n) z) ∧ Unit01 (1 - fracW (BitVec.ofNat 32 n) z) := fun z => by
    obtain ⟨_, _, _, _, _, _, _, _, _, f, h0, h1, e⟩ := axis_spec hn htop hlast z
    refine ⟨⟨f, h0, e⟩, ⟨1 - f, by linarith, ?_⟩⟩
    rw [e, show (1 : EReal) = ((1 : ℝ) : EReal) by norm_cast, ← EReal.coe_sub]
  unfold wgtW
  split
  · exact unit01_select _ (hf _).2
  · exact unit01_select _ (hf _).1

end Cert.Value

end
-- ==== Proof.Value.Weights.lean ====
/- The kernel's arrays of weights after its run: each element a function of its box alone. -/
module

public import proofs.«01_k».proof.Proof.Run.Frame
public import proofs.«01_k».proof.Proof.Value.Axis
public import Idealize.ShloMosaic.Lib.StableHlo.ReadAt
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (c : Dev nD)

/-- The codes, the scales and the boxes the run starts with. -/
abbrev codes : Vec Ideal S24x256x7x7x160 .fp8e5m2 := m ((c : Thread nD τ).loc main_arg0)
abbrev scales : Vec Ideal S24x256x5 .f32 := m ((c : Thread nD τ).loc main_arg1)
abbrev boxes : Vec Ideal S24x256x4 .f32 := m ((c : Thread nD τ).loc main_arg2)

/-- The region's three inputs are the arguments with their axes moved. -/
theorem in_codes (b : Fin 24) (p q : Fin 7) (ch : Fin 160) (n : Fin 256) :
    V m c main_v0 (ix5 b p q ch n) = codes m c (ix5 b n p q ch) := by
  show StableHlo.after (List.flatten [hostOps0]) (fun b => m (c, b)) (Proc.devRef .tc main_v0) (ix5 b p q ch n) = _
  after_reads_at

theorem in_scales (b : Fin 24) (r : Fin 5) (n : Fin 256) : V m c main_v1 (ix3 b r n) = scales m c (ix3 b n r) := by
  show StableHlo.after (List.flatten [hostOps0]) (fun b => m (c, b)) (Proc.devRef .tc main_v1) (ix3 b r n) = _
  after_reads_at

theorem in_boxes (b : Fin 24) (r : Fin 4) (n : Fin 256) : V m c main_v2 (ix3 b r n) = boxes m c (ix3 b n r) := by
  show StableHlo.after (List.flatten [hostOps0]) (fun b => m (c, b)) (Proc.devRef .tc main_v2) (ix3 b r n) = _
  after_reads_at

/-- The image of point `t`. -/
abbrev img (t : Fin cfg0.N) : Fin 24 := ⟨(grid0.coords t 0).val, (grid0.coords t 0).isLt⟩

theorem index0 : ∀ t : Fin cfg0.N, win0_0.index t = ![(grid0.coords t 0).val, 0, 0, 0, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![(grid0.coords t 0).val, 0, 0] := (by decide +kernel : ∀ t : Fin grid0.N, _)
theorem index3 : ∀ t : Fin cfg0.N, win0_3.index t = ![(grid0.coords t 0).val, (grid0.coords t 1).val, 0, 0] := (by decide +kernel : ∀ t : Fin grid0.N, _)
theorem index4 : ∀ t : Fin cfg0.N, win0_4.index t = ![(grid0.coords t 0).val, 0, 0, 0] := (by decide +kernel : ∀ t : Fin grid0.N, _)
theorem index5 : ∀ t : Fin cfg0.N, win0_5.index t = ![(grid0.coords t 0).val, 0, 0, 0] := (by decide +kernel : ∀ t : Fin grid0.N, _)

/-- A point's staged boxes are its image's boxes. -/
theorem box_at (t : Fin cfg0.N) (r : Fin 4) (n : Fin 256) : boxAt m c t (ix3 0 r n) = boxes m c (ix3 (img t) n r) := by
  show iblk m c 2 t (ix3 0 r n) = _
  rw [← in_boxes]
  blk_simp [iblk]
  refine congrArg _ ?_
  blk_ext [index2]

theorem scale_at (t : Fin cfg0.N) (r : Fin 5) (n : Fin 256) : (iblk m c 1 t : Vec Ideal S1x5x256 .f32) (ix3 0 r n) = scales m c (ix3 (img t) n r) := by
  rw [← in_scales]
  blk_simp [iblk]
  refine congrArg _ ?_
  blk_ext [index1]

theorem code_at (t : Fin cfg0.N) (p q : Fin 7) (ch : Fin 160) (n : Fin 256) :
    (iblk m c 0 t : Vec Ideal S1x7x7x160x256 .fp8e5m2) (ix5 0 p q ch n) = codes m c (ix5 (img t) n p q ch) := by
  rw [← in_codes]
  blk_simp [iblk]
  refine congrArg _ ?_
  blk_ext [index0]

/-- An axis's weights of one box. -/
def wyFull (b : Fin 24) (n : Fin 256) (p : Fin 7) (k : Fin 4) : Ideal .f32 :=
  wgt yTop yLast (edge (boxes m c (ix3 b n 1))) (bin (boxes m c (ix3 b n 1)) (boxes m c (ix3 b n 3))) p k
def wxFull (b : Fin 24) (n : Fin 256) (p : Fin 7) (k : Fin 4) : Ideal .f32 :=
  wgt xTop xLast (edge (boxes m c (ix3 b n 0))) (bin (boxes m c (ix3 b n 0)) (boxes m c (ix3 b n 2))) p k

/-- What a point's boxes give is what their image's boxes give. -/
theorem staged_wy (t : Fin cfg0.N) (n : Fin 256) (p : Fin 7) (k : Fin 4) : wyOf (boxAt m c t) (ix4 0 p k n) = wyFull m c (img t) n p k := by
  show wgt yTop yLast (edge (boxAt m c t (ix3 0 1 n))) (bin (boxAt m c t (ix3 0 1 n)) (boxAt m c t (ix3 0 3 n))) p k = _
  rw [box_at, box_at]
  rfl

theorem staged_wx (t : Fin cfg0.N) (n : Fin 256) (p : Fin 7) (k : Fin 4) : wxOf (boxAt m c t) (ix4 0 p k n) = wxFull m c (img t) n p k := by
  show wgt xTop xLast (edge (boxAt m c t (ix3 0 0 n))) (bin (boxAt m c t (ix3 0 0 n)) (boxAt m c t (ix3 0 2 n))) p k = _
  rw [box_at, box_at]
  rfl

/-- The array of y weights after the region. -/
theorem final4 : (dats m 0 c).arrAt 4 cfg0.N = fun i : S24x7x4x256.Idx => wyFull m c (i 0) (i 3) (i 1) (i 2) := by
  refine (dats m 0 c).arrAt_eq_of_covers 4 _ (by decide +kernel) fun t _ y => ?_
  have e0 : (((cfg0.win 4).blk t).view.emb y : S24x7x4x256.Idx) = (ix4 (img t) (y 1) (y 2) (y 3) : S24x7x4x256.Idx) := by
    blk_ext [index4]
  rw [e0]
  blk_simp
  rw [after0_4]
  exact staged_wy m c t (y 3) (y 1) (y 2)

/-- The array of x weights after the region. -/
theorem final5 : (dats m 0 c).arrAt 5 cfg0.N = fun i : S24x7x4x256.Idx => wxFull m c (i 0) (i 3) (i 1) (i 2) := by
  refine (dats m 0 c).arrAt_eq_of_covers 5 _ (by decide +kernel) fun t _ y => ?_
  have e0 : (((cfg0.win 5).blk t).view.emb y : S24x7x4x256.Idx) = (ix4 (img t) (y 1) (y 2) (y 3) : S24x7x4x256.Idx) := by
    blk_ext [index5]
  rw [e0]
  blk_simp
  rw [after0_5]
  exact staged_wx m c t (y 3) (y 1) (y 2)

/-- The windows stage distinct arrays. -/
theorem arr_inj : Function.Injective (Pipeline.arrRef (cfgs 0).spec) := by
  intro a b
  revert a b
  decide

/-- The second result: the y axis's weights. -/
theorem out_wy : Pipeline.afterTail₀ cfgs (dats m) 0 (V0 m) [hostOps1] c main_v5 = fun i : S24x256x7x4.Idx => wyFull m c (i 0) (i 1) (i 2) (i 3) := by
  funext i
  idx_vars i
  show StableHlo.after (List.flatten [hostOps1]) _ (Proc.devRef .tc main_v5) (ix4 i0 i1 i2 i3) = _
  after_reads_at
  have e := Pipeline.withArrays_arr (cfgs 0).spec arr_inj c (V0 m c) (fun w => (dats m 0 c).arrAt w (cfgs 0).N) 4
  exact (congrFun e _).trans (congrFun (final4 m c) _)

/-- The third: the x axis's. -/
theorem out_wx : Pipeline.afterTail₀ cfgs (dats m) 0 (V0 m) [hostOps1] c main_v6 = fun i : S24x256x7x4.Idx => wxFull m c (i 0) (i 1) (i 2) (i 3) := by
  funext i
  idx_vars i
  show StableHlo.after (List.flatten [hostOps1]) _ (Proc.devRef .tc main_v6) (ix4 i0 i1 i2 i3) = _
  after_reads_at
  have e := Pipeline.withArrays_arr (cfgs 0).spec arr_inj c (V0 m c) (fun w => (dats m 0 c).arrAt w (cfgs 0).N) 5
  exact (congrFun e _).trans (congrFun (final5 m c) _)

end Cert.KernelIdeal.Val

end
-- ==== Proof.Value.Sums.lean ====
/- Extended real sums of the two kinds the gradients are written as, and why they agree. -/
module

public import proofs.«01_k».proof.Proof.Value.Axis

@[expose] public section

noncomputable section

namespace Cert.Value

open Idealize.ShloMosaic
open scoped BigOperators

/-- What is not a finite value becomes the undefined one. -/
def clean (g : EReal) : EReal := if max g (-g) < ⊤ then g else ⊥

theorem clean_coe (r : ℝ) : clean (r : EReal) = r := by
  unfold clean
  rw [if_pos]
  rw [max_lt_iff, ← EReal.coe_neg]
  exact ⟨EReal.coe_lt_top _, EReal.coe_lt_top _⟩

theorem clean_inf {g : EReal} (h : g = ⊤ ∨ g = ⊥) : clean g = ⊥ := by
  unfold clean
  rw [if_neg]
  rcases h with rfl | rfl <;> simp

/-- A sum with an infinite term is infinite. -/
theorem sum_inf {ι : Type} [Fintype ι] [DecidableEq ι] (f : ι → EReal) (i : ι) (h : f i = ⊤ ∨ f i = ⊥) : ∑ j, f j = ⊤ ∨ ∑ j, f j = ⊥ := by
  rw [← Finset.add_sum_erase _ _ (Finset.mem_univ i)]
  rcases h with h | h
  · rw [h]
    by_cases hb : (∑ j ∈ Finset.univ.erase i, f j) = ⊥
    · right; rw [hb, EReal.add_bot]
    · left; exact EReal.top_add_of_ne_bot hb
  · right; rw [h, EReal.bot_add]

/-- A sum with an undefined term is undefined. -/
theorem sum_bot {ι : Type} [Fintype ι] [DecidableEq ι] (f : ι → EReal) (i : ι) (h : f i = ⊥) : ∑ j, f j = ⊥ := by
  rw [← Finset.add_sum_erase _ _ (Finset.mem_univ i), h, EReal.bot_add]

/-- A product with a real that is not zero is infinite when the other factor is. -/
theorem inf_mul {a : EReal} (h : a = ⊤ ∨ a = ⊥) {r : ℝ} (hr : r ≠ 0) : a * (r : EReal) = ⊤ ∨ a * (r : EReal) = ⊥ := by
  rcases lt_or_gt_of_ne hr with hr | hr
  · rcases h with rfl | rfl
    · right; exact EReal.top_mul_coe_of_neg hr
    · left; exact EReal.bot_mul_coe_of_neg hr
  · rcases h with rfl | rfl
    · left; exact EReal.top_mul_coe_of_pos hr
    · right; exact EReal.bot_mul_coe_of_pos hr

/-- A sum of reals is a real. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A real factor, not negative, times a sum of such reals: the products' sum, whatever the factor. -/
theorem mul_sum_real {ι : Type} (s : Finset ι) (g : EReal) (a : ι → ℝ) (ha : ∀ i, 0 ≤ a i) : g * ((∑ i ∈ s, a i : ℝ) : EReal) = ∑ i ∈ s, g * (a i : EReal) := by
  classical
  induction s using Finset.induction_on with
  | empty => simp
  | insert i s hi ih =>
    rw [Finset.sum_insert hi, Finset.sum_insert hi, EReal.coe_add,
      EReal.left_distrib_of_nonneg (by exact_mod_cast ha i) (by exact_mod_cast Finset.sum_nonneg fun j _ => ha j), ih]

/-- One bin row of one box at one channel: the row of codes contracted with the x weights `r`, scaled, then weighted by `W`
    with what is left of it after narrowing, is the sum of the cleaned gradients times both weights. -/
theorem row_eq {ι : Type} [Fintype ι] [DecidableEq ι] (c : ι → EReal) (r : ι → ℝ) (hr : ∀ i, 0 ≤ r i) (s W : ℝ) (hW : 0 ≤ W) :
    ((∑ i, c i * (r i : EReal)) * ((s : EReal) * ((1 / 4 : ℝ) : EReal))) * (W : EReal)
        + ((∑ i, c i * (r i : EReal)) * ((s : EReal) * ((1 / 4 : ℝ) : EReal)) - (∑ i, c i * (r i : EReal)) * ((s : EReal) * ((1 / 4 : ℝ) : EReal))) * (W : EReal)
      = ∑ i, clean (Ideal.div (c i * (s : EReal)) ((4 : ℝ) : EReal)) * ((W : EReal) * (r i : EReal)) := by
  rcases hW.eq_or_lt with rfl | hW
  · simp
  by_cases hs : s = 0
  · subst hs
    have h0 : clean 0 = 0 := by simpa using clean_coe 0
    simp [Ideal.div_coe, h0]
  have hs4 : s * (1 / 4) ≠ 0 := mul_ne_zero hs (by norm_num)
  have hdiv : ∀ x : EReal, Ideal.div (x * (s : EReal)) ((4 : ℝ) : EReal) = x * ((s * (1 / 4) : ℝ) : EReal) := by
    intro x
    rw [Ideal.div_coe (by norm_num), EReal.coe_mul, mul_assoc]
  rw [← EReal.coe_mul]
  simp only [hdiv]
  by_cases hinf : ∃ i, 0 < r i ∧ (c i = ⊤ ∨ c i = ⊥)
  · obtain ⟨i, hi, hc⟩ := hinf
    have ht := inf_mul (sum_inf (fun j => c j * (r j : EReal)) i (inf_mul hc hi.ne')) hs4
    rw [sum_bot (fun j => clean (c j * ((s * (1 / 4) : ℝ) : EReal)) * ((W : EReal) * (r j : EReal))) i ?_]
    · have hd : ∀ t : EReal, t = ⊤ ∨ t = ⊥ → t - t = ⊥ := by
        rintro t (rfl | rfl) <;> simp [sub_eq_add_neg]
      rw [hd _ ht, EReal.bot_mul_coe_of_pos hW, EReal.add_bot]
    · show clean _ * _ = _
      rw [clean_inf (inf_mul hc hs4), ← EReal.coe_mul, EReal.bot_mul_coe_of_pos (mul_pos hW hi)]
  · have hfin : ∀ i, c i * (r i : EReal) = (((c i).toReal * r i : ℝ) : EReal) := by
      intro i
      rcases (hr i).eq_or_lt with h | h
      · rw [← h]; simp
      · rw [EReal.coe_mul, EReal.coe_toReal (fun e => hinf ⟨i, h, .inl e⟩) (fun e => hinf ⟨i, h, .inr e⟩)]
    have hterm : ∀ i, clean (c i * ((s * (1 / 4) : ℝ) : EReal)) * ((W : EReal) * (r i : EReal)) = (((c i).toReal * (s * (1 / 4)) * (W * r i) : ℝ) : EReal) := by
      intro i
      rcases (hr i).eq_or_lt with h | h
      · rw [← h]; simp
      · have e : c i = ((c i).toReal : EReal) := (EReal.coe_toReal (fun e => hinf ⟨i, h, .inl e⟩) (fun e => hinf ⟨i, h, .inr e⟩)).symm
        rw [e, ← EReal.coe_mul, clean_coe, ← EReal.coe_mul, ← EReal.coe_mul, EReal.toReal_coe]
    simp only [hfin, hterm]
    rw [coe_sum, coe_sum, ← EReal.coe_mul, ← EReal.coe_mul, ← EReal.coe_sub, ← EReal.coe_mul, ← EReal.coe_add, sub_self, zero_mul, add_zero]
    rw [Finset.sum_mul, Finset.sum_mul]
    exact congrArg _ (Finset.sum_congr rfl fun i _ => by ring)

/-- The contributions of one pair of bins: each pair of weights whose elements are the wanted ones, or the product of the
    two sums of such weights. -/
theorem pair_eq {κ : Type} [Fintype κ] (g : EReal) (a b : κ → ℝ) (ha : ∀ i, 0 ≤ a i) (hb : ∀ i, 0 ≤ b i) (P Q : κ → Prop) [DecidablePred P] [DecidablePred Q] :
    (∑ k, ∑ l, if P k ∧ Q l then g * ((a k : EReal) * (b l : EReal)) else 0)
      = g * (((∑ k, if P k then a k else 0 : ℝ) : EReal) * ((∑ l, if Q l then b l else 0 : ℝ) : EReal)) := by
  rw [← EReal.coe_mul, Finset.sum_mul_sum, mul_sum_real _ _ _ (fun k => Finset.sum_nonneg fun l _ => mul_nonneg (by split <;> simp [ha]) (by split <;> simp [hb]))]
  refine Finset.sum_congr rfl fun k _ => ?_
  rw [mul_sum_real _ _ _ (fun l => mul_nonneg (by split <;> simp [ha]) (by split <;> simp [hb]))]
  refine Finset.sum_congr rfl fun l _ => ?_
  by_cases hP : P k <;> by_cases hQ : Q l <;> simp [hP, hQ]

/-- The result's element: over the boxes of the image and the pairs of weights, the gradients whose elements are that one. -/
def dxSum (g : Fin 24 → Fin 256 → Fin 7 → Fin 7 → Fin 160 → EReal) (wy wx : Fin 24 → Fin 256 → Fin 7 → Fin 4 → ℝ)
    (jy jx : Fin 24 → Fin 256 → Fin 7 → Fin 4 → ℕ) (b : Fin 24) (y x : ℕ) (ch : Fin 160) : EReal :=
  ∑ n, ∑ p, ∑ k, ∑ q, ∑ l, if jy b n p k = y ∧ jx b n q l = x then g b n p q ch * ((wy b n p k : EReal) * (wx b n q l : EReal)) else 0

end Cert.Value

end
-- ==== Proof.Value.Point.lean ====
/- One element of the block of gradients, as sums over the boxes, the bins and their weights. -/
module

public import proofs.«01_k».proof.Proof.Run.Block
public import proofs.«01_k».proof.Proof.Value.Sums
public import Idealize.ShloMosaic.Lib.Pointwise

@[expose] public section

set_option maxRecDepth 16384

noncomputable section

namespace Cert.KernelIdeal.Val

open Idealize.ShloMosaic Idealize.ShloMosaic.TcCoe
open Idealize.SL.Sem
open Cert.KernelIdeal Cert.KernelIdeal.Gen
open scoped BigOperators

/-- The scales of a channel's group of 32, as loaded rows, times a quarter. -/
theorem pay_scale (v0 v1 v2 v3 v4 : Vec Ideal S1x1x256 .f32) (r : Fin 5) (ch : Fin 160) (hr : ch.val / 32 = r.val) (n : Fin 256) :
    k0_pay407 v0 v1 v2 v3 v4 (ix2 ch n) = (![v0, v1, v2, v3, v4] r) (ix3 0 0 n) * ((1 / 4 : ℝ) : EReal) := by
  pointwise [k0_pay407]
  simp only [Cert.Value.ofBits_quarter]
  fin_cases r <;> repeat' split
  all_goals first | rfl | (exfalso; simp at hr; omega)

/-- The scale of a channel's group, times a quarter. -/
theorem scaleOf_apply (x1 : Vec Ideal S1x5x256 .f32) (r : Fin 5) (ch : Fin 160) (hr : ch.val / 32 = r.val) (n : Fin 256) :
    scaleOf x1 (ix2 ch n) = x1 (ix3 0 r n) * ((1 / 4 : ℝ) : EReal) := by
  rw [scaleOf, pay_scale _ _ _ _ _ r ch hr n]
  refine congrArg (· * _) ?_
  fin_cases r <;>
  · refine congrArg x1 (funext fun a => Fin.ext ?_)
    fin_cases a <;> simp [Rect.unit, Rect.toLoadRect, LoadRect.idx, ix3]

/-- The sum of a bin's four selected x weights. -/
theorem colRow_apply (s : Vec Ideal S28x256 .f32) (p : Fin 7) (n : Fin 256) :
    colRow s p (ix2 0 n) = ∑ k : Fin 4, s (ix2 ⟨4 * p.val + k.val, by omega⟩ n) := by
  pointwise [colRow]

/-- The scaled row of codes contracted with the x rows. -/
theorem codeRow_apply (cd : Fin 7 → Vec Ideal S1x1x1x160x256 .fp8e5m2) (sc : FVec Ideal S160x256 .f32) (r : Fin 7 → FVec Ideal S1x256 .f32)
    (ch : Fin 160) (n : Fin 256) :
    codeRow cd sc r (ix2 ch n) = (∑ p, (show EReal from cd p (ix5 0 0 0 ch n)) * r p (ix2 0 n)) * sc (ix2 ch n) := by
  pointwise [codeRow, codeTerm]
  rw [Fin.sum_univ_seven]

/-- One bin row added to the accumulator. -/
theorem accStep_apply (acc t : FVec Ideal S160x256 .f32) (w : Vec Ideal S1x256x256 .bf16) (ch : Fin 160) (j : Fin 256) :
    accStep acc t w (ix2 ch j) = acc (ix2 ch j) + ∑ n, t (ix2 ch n) * w (ix3 0 j n) + ∑ n, (t (ix2 ch n) - t (ix2 ch n)) * w (ix3 0 j n) := by
  pointwise [accStep]

/-- The block's element is the sum of the accumulator's two columns. -/
theorem colBlock_apply (acc : FVec Ideal S160x256 .f32) (ch : Fin 160) (y : Fin 100) :
    colBlock acc (ix4 0 0 ch y) = acc (ix2 ch ⟨y.val, by omega⟩) + acc (ix2 ch ⟨128 + y.val, by omega⟩) := by
  pointwise [colBlock]

end Cert.KernelIdeal.Val

end
-- ==== Proof.Value.Dx.lean ====
/- One element of the block of gradients over the weights and elements of both axes, and its agreement with the sum over
   all pairs of weights. -/
module

public import proofs.«01_k».proof.Proof.Value.Point

@[expose] public section

set_option maxRecDepth 16384

noncomputable section

namespace Cert.Value

open Idealize.ShloMosaic
open Cert.KernelIdeal.Val
open scoped BigOperators

variable {n : ℕ} {top last : BitVec 32}

/-- A bin's four weights and elements, as reals and whole numbers, in either program's way of computing them. -/
theorem axis_vals (hn : n < 1000) (htop : Ideal.ofBits .f32 top = ((n + 1 : ℕ) : EReal)) (hlast : Ideal.ofBits .f32 last = ((n : ℕ) : EReal))
    (lo hi : EReal) (p : Fin 7) (k : Fin 4) : ∃ (f : ℝ) (j : ℕ), 0 ≤ f ∧ j ≤ n
      ∧ wgtW top (BitVec.ofNat 32 n) lo hi p k = (f : EReal) ∧ indW (BitVec.ofNat 32 n) lo hi p k = BitVec.ofNat 32 j
      ∧ wgt (F := Ideal) top last (edge (F := Ideal) lo) (bin (F := Ideal) lo hi) p k = (f : EReal)
      ∧ ind (F := Ideal) top last (edge (F := Ideal) lo) (bin (F := Ideal) lo hi) p k = ((j : ℕ) : EReal) := by
  obtain ⟨f, hf, e⟩ := wgtW_unit hn htop hlast lo hi p k
  obtain ⟨j, hj, e1, e2⟩ := ind_eq hn htop hlast lo hi p k
  exact ⟨f, j, hf, hj, e, e1, (wgt_eq hn htop hlast lo hi p k).trans e, e2⟩

/-- A weight chosen by comparing a whole number with its element. -/
theorem select_hit {y j : ℕ} {a b w : EReal} {f : ℝ} (ha : a = ((y : ℕ) : EReal)) (hb : b = ((j : ℕ) : EReal)) (hw : w = (f : EReal)) :
    Scalar.select (Ideal.cmp .oeq a b) w (Ideal.ofBits .f32 0x00000000#32) = ((if j = y then f else 0 : ℝ) : EReal) := by
  subst ha hb hw
  rw [Ideal.cmp_oeq, Ideal.ofBits_zero_f32]
  by_cases h : j = y
  · subst h; simp [Scalar.select]
  · have : ¬ ((y : ℕ) : EReal) = ((j : ℕ) : EReal) := fun e => h (by exact_mod_cast e.symm)
    simp [Scalar.select, h, this]

/-- A small whole number as a float. -/
theorem sitofp_small {y : ℕ} (h : y < 1000) : (FloatOps.sitofp .f32 (BitVec.ofNat 32 y) : Ideal .f32) = ((y : ℕ) : EReal) :=
  num_ofNat (by omega)

/-- What a bin puts on an element: the real sum of its weights there. -/
theorem hits_eq (e b : EReal) (p : Fin 7) (f : Fin 4 → ℝ) (j : Fin 4 → ℕ) (hw : ∀ k, wgt (F := Ideal) top last e b p k = (f k : EReal))
    (hi : ∀ k, ind (F := Ideal) top last e b p k = ((j k : ℕ) : EReal)) {y : ℕ} {z : EReal} (hz : z = ((y : ℕ) : EReal)) :
    hits (F := Ideal) top last e b p z = ((∑ k, if j k = y then f k else 0 : ℝ) : EReal) := by
  show Ideal.ofBits .f32 0x00000000#32 + Scalar.select (Ideal.cmp .oeq z _) _ (Ideal.ofBits .f32 0x00000000#32)
    + Scalar.select (Ideal.cmp .oeq z _) _ (Ideal.ofBits .f32 0x00000000#32) + Scalar.select (Ideal.cmp .oeq z _) _ (Ideal.ofBits .f32 0x00000000#32)
    + Scalar.select (Ideal.cmp .oeq z _) _ (Ideal.ofBits .f32 0x00000000#32) = _
  rw [select_hit hz (hi 0) (hw 0), select_hit hz (hi 1) (hw 1), select_hit hz (hi 2) (hw 2), select_hit hz (hi 3) (hw 3), Ideal.ofBits_zero_f32, zero_add,
    ← EReal.coe_add, ← EReal.coe_add, ← EReal.coe_add, Fin.sum_univ_four]

/-- The kernel's sum for one box is the sum over all pairs of its weights. -/
theorem box_eq (c : Fin 7 → Fin 7 → EReal) (s : ℝ) (fy fx : Fin 7 → Fin 4 → ℝ) (hy : ∀ p k, 0 ≤ fy p k) (hx : ∀ p k, 0 ≤ fx p k)
    (jy jx : Fin 7 → Fin 4 → ℕ) (y x : ℕ) (p : Fin 7) (t : EReal)
    (ht : t = (∑ q, c p q * ((∑ l, if jx q l = x then fx q l else 0 : ℝ) : EReal)) * ((s : EReal) * ((1 / 4 : ℝ) : EReal))) :
    t * ((∑ k, if jy p k = y then fy p k else 0 : ℝ) : EReal) + (t - t) * ((∑ k, if jy p k = y then fy p k else 0 : ℝ) : EReal)
      = ∑ k, ∑ q, ∑ l, if jy p k = y ∧ jx q l = x then clean (Ideal.div (c p q * (s : EReal)) ((4 : ℝ) : EReal)) * ((fy p k : EReal) * (fx q l : EReal)) else 0 := by
  subst ht
  rw [row_eq (c p) _ (fun q => Finset.sum_nonneg fun l _ => by split <;> simp [hx]) s _ (Finset.sum_nonneg fun k _ => by split <;> simp [hy]), Finset.sum_comm]
  exact Finset.sum_congr rfl fun q _ => (pair_eq _ (fy p) (fx q) (hy p) (hx q) (fun k => jy p k = y) (fun l => jx q l = x)).symm

end Cert.Value

namespace Cert.KernelIdeal.Val

open Idealize.ShloMosaic Idealize.ShloMosaic.TcCoe
open Idealize.SL.Sem
open Cert.KernelIdeal Cert.KernelIdeal.Gen
open scoped BigOperators

/-- The accumulator of a column at one element: the two products of every bin row. -/
theorem colAcc_apply (cd : Fin 7 → Fin 7 → Vec Ideal S1x1x1x160x256 .fp8e5m2) (sc : FVec Ideal S160x256 .f32) (r : Fin 7 → FVec Ideal S1x256 .f32)
    (w : Fin 7 → Vec Ideal S1x256x256 .bf16) (ch : Fin 160) (j : Fin 256) (t W : Fin 7 → Fin 256 → EReal)
    (ht : ∀ p n, codeRow (cd p) sc r (ix2 ch n) = t p n) (hW : ∀ p n, w p (ix3 0 j n) = W p n) :
    colAcc cd sc r w (ix2 ch j) = ∑ p, (∑ n, t p n * W p n + ∑ n, (t p n - t p n) * W p n) := by
  unfold colAcc
  simp only [accStep_apply, ht, hW, Fin.sum_univ_seven]
  have h0 : (broadcast S160x256 (Scalar.ofBits .f32 0x00000000#32) : FVec Ideal S160x256 .f32) (ix2 ch j) = (0 : EReal) := Ideal.ofBits_zero_f32
  rw [h0, zero_add]
  simp only [add_assoc]

/-- The staged codes' element behind a load. -/
theorem idx_code (p q : Fin 7) (ch : Fin 160) (n : Fin 256) :
    ((Rect.unit (s := S1x7x7x160x256) ![0, p.val, q.val, 0, 0] S1x1x1x160x256.size (code_inb p q)).toLoadRect.idx (ix5 0 0 0 ch n) : S1x7x7x160x256.Idx) = ix5 0 p q ch n := by
  funext a
  apply Fin.ext
  fin_cases a <;> simp [Rect.unit, Rect.toLoadRect, LoadRect.idx, ix5]

theorem idx_mat (p : Fin 7) (j n : Fin 256) :
    ((Rect.unit (s := S7x256x256) ![p.val, 0, 0] S1x256x256.size (mat_inb p)).toLoadRect.idx (ix3 0 j n) : S7x256x256.Idx) = ix3 p j n := by
  funext a
  apply Fin.ext
  fin_cases a <;> simp [Rect.unit, Rect.toLoadRect, LoadRect.idx, ix3]

/-- The number of a column as a float. -/
theorem col_num (a : ℕ) (ha : a < 19) (k : ℕ) (hk : k < 8) :
    (Scalar.sitofp .f32 (Scalar.addi (Scalar.muli (BitVec.ofNat 32 a) 8#32) (Scf.iv 0#32 1#32 k)) : Ideal .f32) = ((8 * a + k : ℕ) : EReal) := by
  have e : Scalar.addi (Scalar.muli (BitVec.ofNat 32 a) 8#32) (Scf.iv 0#32 1#32 k) = BitVec.ofNat 32 (8 * a + k) :=
    (by decide +kernel : ∀ (a : Fin 19) (k : Fin 8), Scalar.addi (Scalar.muli (BitVec.ofNat 32 a.val) 8#32) (Scf.iv 0#32 1#32 k.val) = BitVec.ofNat 32 (8 * a.val + k.val)) ⟨a, ha⟩ ⟨k, hk⟩
  rw [e]
  exact Cert.Value.sitofp_small (by omega)

variable (x0 : Vec Ideal S1x7x7x160x256 .fp8e5m2) (x1 : Vec Ideal S1x5x256 .f32) (x2 : Vec Ideal S1x4x256 .f32)

/-- Row `4 q + l` of the prepared x weights and of their elements: bin `q`'s number `l`. -/
theorem rows_wgt (q : Fin 7) (l : Fin 4) (n : Fin 256) : wxRows x2 (ix2 ⟨4 * q.val + l.val, by omega⟩ n)
    = wgt (F := Ideal) xTop xLast (edge (F := Ideal) (x2 (ix3 0 0 n))) (bin (F := Ideal) (x2 (ix3 0 0 n)) (x2 (ix3 0 2 n))) q l := by
  have e1 : (⟨(4 * q.val + l.val) / 4, by omega⟩ : Fin 7) = q := Fin.ext (by show (4 * q.val + l.val) / 4 = q.val; omega)
  have e2 : (⟨(4 * q.val + l.val) % 4, by omega⟩ : Fin 4) = l := Fin.ext (by show (4 * q.val + l.val) % 4 = l.val; omega)
  show wgt (F := Ideal) xTop xLast _ _ (⟨(4 * q.val + l.val) / 4, _⟩ : Fin 7) (⟨(4 * q.val + l.val) % 4, _⟩ : Fin 4) = _
  rw [e1, e2]
  rfl

theorem rows_ind (q : Fin 7) (l : Fin 4) (n : Fin 256) : ixRows x2 (ix2 ⟨4 * q.val + l.val, by omega⟩ n)
    = ind (F := Ideal) xTop xLast (edge (F := Ideal) (x2 (ix3 0 0 n))) (bin (F := Ideal) (x2 (ix3 0 0 n)) (x2 (ix3 0 2 n))) q l := by
  have e1 : (⟨(4 * q.val + l.val) / 4, by omega⟩ : Fin 7) = q := Fin.ext (by show (4 * q.val + l.val) / 4 = q.val; omega)
  have e2 : (⟨(4 * q.val + l.val) % 4, by omega⟩ : Fin 4) = l := Fin.ext (by show (4 * q.val + l.val) % 4 = l.val; omega)
  show ind (F := Ideal) xTop xLast _ _ (⟨(4 * q.val + l.val) / 4, _⟩ : Fin 7) (⟨(4 * q.val + l.val) % 4, _⟩ : Fin 4) = _
  rw [e1, e2]
  rfl

/-- One element of the block of gradients: over the boxes and the pairs of weights, the cleaned gradients whose elements are that one. -/
theorem dxOf_apply (a : ℕ) (ha : a < 19) (i : Fin 8) (ch : Fin 160) (y : Fin 100) (fy fx : Fin 256 → Fin 7 → Fin 4 → ℝ) (jy jx : Fin 256 → Fin 7 → Fin 4 → ℕ)
    (hy : ∀ n p k, 0 ≤ fy n p k ∧ wgt (F := Ideal) yTop yLast (edge (F := Ideal) (x2 (ix3 0 1 n))) (bin (F := Ideal) (x2 (ix3 0 1 n)) (x2 (ix3 0 3 n))) p k = (fy n p k : EReal)
      ∧ ind (F := Ideal) yTop yLast (edge (F := Ideal) (x2 (ix3 0 1 n))) (bin (F := Ideal) (x2 (ix3 0 1 n)) (x2 (ix3 0 3 n))) p k = ((jy n p k : ℕ) : EReal))
    (hx : ∀ n p k, 0 ≤ fx n p k ∧ wgt (F := Ideal) xTop xLast (edge (F := Ideal) (x2 (ix3 0 0 n))) (bin (F := Ideal) (x2 (ix3 0 0 n)) (x2 (ix3 0 2 n))) p k = (fx n p k : EReal)
      ∧ ind (F := Ideal) xTop xLast (edge (F := Ideal) (x2 (ix3 0 0 n))) (bin (F := Ideal) (x2 (ix3 0 0 n)) (x2 (ix3 0 2 n))) p k = ((jx n p k : ℕ) : EReal))
    (c : Fin 256 → Fin 7 → Fin 7 → EReal) (hc : ∀ n p q, x0 (ix5 0 p q ch n) = c n p q)
    (s : Fin 256 → ℝ) (hs : ∀ n, x1 (ix3 0 ⟨ch.val / 32, by omega⟩ n) = (s n : EReal)) :
    dxOf (BitVec.ofNat 32 a) x0 x1 (yRows x2) (wxRows x2) (ixRows x2) (ix4 0 i ch y)
      = ∑ n, ∑ p, ∑ k, ∑ q, ∑ l, if jy n p k = y.val ∧ jx n q l = 8 * a + i.val then
          Cert.Value.clean (Ideal.div (c n p q * (s n : EReal)) ((4 : ℝ) : EReal)) * ((fy n p k : EReal) * (fx n q l : EReal)) else 0 := by
  show colBlock (dxAcc (BitVec.ofNat 32 a) x0 x1 (yRows x2) (wxRows x2) (ixRows x2) i.val) (ix4 0 0 ch y) = _
  rw [colBlock_apply]
  -- the row of codes of bin row `p` at box `n`
  set t : Fin 7 → Fin 256 → EReal := fun p n =>
    (∑ q, c n p q * ((∑ l, if jx n q l = 8 * a + i.val then fx n q l else 0 : ℝ) : EReal)) * ((s n : EReal) * ((1 / 4 : ℝ) : EReal)) with ht
  have hrow : ∀ p n, codeRow (fun q z => x0 ((Rect.unit (s := S1x7x7x160x256) ![0, p.val, q.val, 0, 0] S1x1x1x160x256.size (code_inb p q)).toLoadRect.idx z))
      (scaleOf x1) (colRow (colSel (Scalar.sitofp .f32 (Scalar.addi (Scalar.muli (BitVec.ofNat 32 a) 8#32) (Scf.iv 0#32 1#32 i.val))) (ixRows x2) (wxRows x2))) (ix2 ch n) = t p n := by
    intro p n
    rw [codeRow_apply, scaleOf_apply x1 ⟨ch.val / 32, by omega⟩ ch rfl n, hs, ht]
    refine congrArg (· * _) (Finset.sum_congr rfl fun q _ => ?_)
    rw [idx_code, hc, colRow_apply]
    refine congrArg (c n p q * ·) ?_
    rw [← Cert.Value.coe_sum]
    refine Finset.sum_congr rfl fun l _ => ?_
    refine (Cert.Value.select_hit ((rows_ind x2 q l n).trans (hx n q l).2.2) (col_num a ha i.val i.isLt) ((rows_wgt x2 q l n).trans (hx n q l).2.1)).trans ?_
    simp only [eq_comm]
  have hmat : ∀ p n (z : ℕ) (hz : z < 100), hits (F := Ideal) yTop yLast (edge (F := Ideal) (x2 (ix3 0 1 n))) (bin (F := Ideal) (x2 (ix3 0 1 n)) (x2 (ix3 0 3 n))) p (FloatOps.sitofp .f32 (BitVec.ofNat 32 z) : Ideal .f32)
      = ((∑ k, if jy n p k = z then fy n p k else 0 : ℝ) : EReal) := fun p n z hz =>
    Cert.Value.hits_eq _ _ p (fy n p) (jy n p) (fun k => (hy n p k).2.1) (fun k => (hy n p k).2.2) (Cert.Value.sitofp_small (by omega))
  have hlo : ∀ p n, yRows x2 (ix3 p ⟨y.val, by omega⟩ n) = ((∑ k, if jy n p k = y.val then fy n p k else 0 : ℝ) : EReal) := by
    intro p n
    refine (if_pos (show y.val < 128 by omega)).trans ?_
    exact hmat p n y.val y.isLt
  have hhi : ∀ p n, yRows x2 (ix3 p ⟨128 + y.val, by omega⟩ n) = (0 : EReal) := by
    intro p n
    refine (if_neg (show ¬ 128 + y.val < 128 by omega)).trans ?_
    have e : 128 + y.val - 128 = y.val := by omega
    show hits (F := Ideal) yTop yLast (edge (F := Ideal) (x2 (ix3 0 1 n))) (bin (F := Ideal) (x2 (ix3 0 1 n)) (x2 (ix3 0 3 n))) p (FloatOps.sitofp .f32 (BitVec.ofNat 32 (128 + y.val - 128)) : Ideal .f32)
      - hits (F := Ideal) yTop yLast (edge (F := Ideal) (x2 (ix3 0 1 n))) (bin (F := Ideal) (x2 (ix3 0 1 n)) (x2 (ix3 0 3 n))) p (FloatOps.sitofp .f32 (BitVec.ofNat 32 (128 + y.val - 128)) : Ideal .f32) = _
    rw [e, hmat p n y.val y.isLt, ← EReal.coe_sub, sub_self, EReal.coe_zero]
  unfold dxAcc
  rw [colAcc_apply _ _ _ _ ch ⟨y.val, by omega⟩ t _ hrow (fun p n => (congrArg (yRows x2) (idx_mat p _ n)).trans (hlo p n)),
    colAcc_apply _ _ _ _ ch ⟨128 + y.val, by omega⟩ t _ hrow (fun p n => (congrArg (yRows x2) (idx_mat p _ n)).trans (hhi p n))]
  simp only [mul_zero, Finset.sum_const_zero, add_zero, ← Finset.sum_add_distrib]
  rw [Finset.sum_comm]
  refine Finset.sum_congr rfl fun n _ => Finset.sum_congr rfl fun p _ => ?_
  exact Cert.Value.box_eq (c n) (s n) (fy n) (fx n) (fun p k => (hy n p k).1) (fun p k => (hx n p k).1) (jy n) (jx n) y.val (8 * a + i.val) p _ rfl

end Cert.KernelIdeal.Val

end
-- ==== Proof.Value.Grads.lean ====
/- The kernel's array of gradients after its run, one element at a time. -/
module

public import proofs.«01_k».proof.Proof.Value.Weights
public import proofs.«01_k».proof.Proof.Value.Dx

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (c : Dev nD)
  (fy fx : Fin 24 → Fin 256 → Fin 7 → Fin 4 → ℝ) (jy jx : Fin 24 → Fin 256 → Fin 7 → Fin 4 → ℕ) (s : Fin 24 → Fin 256 → Fin 5 → ℝ)
  (hy : ∀ b n p k, 0 ≤ fy b n p k
    ∧ wgt (F := Ideal) yTop yLast (edge (F := Ideal) (boxes m c (ix3 b n 1))) (bin (F := Ideal) (boxes m c (ix3 b n 1)) (boxes m c (ix3 b n 3))) p k = (fy b n p k : EReal)
    ∧ ind (F := Ideal) yTop yLast (edge (F := Ideal) (boxes m c (ix3 b n 1))) (bin (F := Ideal) (boxes m c (ix3 b n 1)) (boxes m c (ix3 b n 3))) p k = ((jy b n p k : ℕ) : EReal))
  (hx : ∀ b n p k, 0 ≤ fx b n p k
    ∧ wgt (F := Ideal) xTop xLast (edge (F := Ideal) (boxes m c (ix3 b n 0))) (bin (F := Ideal) (boxes m c (ix3 b n 0)) (boxes m c (ix3 b n 2))) p k = (fx b n p k : EReal)
    ∧ ind (F := Ideal) xTop xLast (edge (F := Ideal) (boxes m c (ix3 b n 0))) (bin (F := Ideal) (boxes m c (ix3 b n 0)) (boxes m c (ix3 b n 2))) p k = ((jx b n p k : ℕ) : EReal))
  (hs : ∀ b n r, scales m c (ix3 b n r) = (s b n r : EReal))

/-- The gradients the kernel sums: the codes times their group's scale over four, the values that are no number made undefined. -/
def grad (b : Fin 24) (n : Fin 256) (p q : Fin 7) (ch : Fin 160) : EReal :=
  Cert.Value.clean (Ideal.div ((show EReal from codes m c (ix5 b n p q ch)) * (s b n ⟨ch.val / 32, by omega⟩ : EReal)) ((4 : ℝ) : EReal))

include hy hx hs in
/-- The array of gradients after the region. -/
theorem final3 : (dats m 0 c).arrAt 3 cfg0.N = fun i : S24x152x160x100.Idx =>
    Cert.Value.dxSum (grad m c s) fy fx jy jx (i 0) (i 3).val (i 1).val (i 2) := by
  refine (dats m 0 c).arrAt_eq_of_covers 3 _ (by decide +kernel) fun t _ y => ?_
  have hxt : (grid0.coords t 1).val < 19 := (grid0.coords t 1).isLt
  have hy1 : (y 1).val < 8 := (y 1).isLt
  have e0 : (((cfg0.win 3).blk t).view.emb y : S24x152x160x100.Idx)
      = (ix4 (img t) ⟨8 * (grid0.coords t 1).val + (y 1).val, by omega⟩ (y 2) (y 3) : S24x152x160x100.Idx) := by
    blk_ext [index3]
  rw [e0]
  blk_simp
  rw [after0_3]
  refine (dxOf_apply (iblk m c 0 t) (iblk m c 1 t) (boxAt m c t) (grid0.coords t 1).val hxt (y 1) (y 2) (y 3) (fy (img t)) (fx (img t)) (jy (img t)) (jx (img t))
    (fun n p k => ?_) (fun n p k => ?_) (fun n p q => codes m c (ix5 (img t) n p q (y 2))) (fun n p q => code_at m c t p q (y 2) n)
    (fun n => s (img t) n ⟨(y 2).val / 32, by have : (y 2).val < 160 := (y 2).isLt; omega⟩) (fun n => (scale_at m c t _ n).trans (hs _ _ _))).trans rfl
  · rw [box_at, box_at]; exact hy (img t) n p k
  · rw [box_at, box_at]; exact hx (img t) n p k

include hy hx hs in
/-- The first result: the gradients of the feature map. -/
theorem out_dx : Pipeline.afterTail₀ cfgs (dats m) 0 (V0 m) [hostOps1] c main_v4 = fun i : S24x100x152x160.Idx =>
    Cert.Value.dxSum (grad m c s) fy fx jy jx (i 0) (i 1).val (i 2).val (i 3) := by
  funext i
  idx_vars i
  show StableHlo.after (List.flatten [hostOps1]) _ (Proc.devRef .tc main_v4) (ix4 i0 i1 i2 i3) = _
  after_reads_at
  have e := Pipeline.withArrays_arr (cfgs 0).spec arr_inj c (V0 m c) (fun w => (dats m 0 c).arrAt w (cfgs 0).N) 3
  exact (congrFun e _).trans (congrFun (final3 m c fy fx jy jx s hy hx hs) _)

end Cert.KernelIdeal.Val

end
-- ==== Proof.Value.Read.lean ====
/- What the reference's host operations leave in its intermediate buffers, read at an index: the weights and the elements of
   the two axes and the scaled gradient. -/
module

public import proofs.«01_k».proof.Proof.Gen.ReferenceIdeal.Frame
public import proofs.«01_k».proof.Proof.Value.Sums
public import Idealize.ShloMosaic.Lib.StableHlo.ReadAt

@[expose] public section

set_option maxRecDepth 16384

noncomputable section

namespace Cert.Value

open Idealize.ShloMosaic Idealize.ShloMosaic.TcCoe Idealize.ShloMosaic.Tactic
open Idealize.SL.Sem
open Cert.KernelIdeal.Val (yTop yLast xTop xLast)
open Cert.ReferenceIdeal Cert.ReferenceIdeal.Gen

/-- The host operations before the scatter's own. -/
abbrev preOps : List (HloOp τ sig (Elt Ideal)) :=
  [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21].flatten

variable (V : Valuation τ sig (Elt Ideal))

set_option maxHeartbeats 4000000

/-- The y axis's weights. -/
theorem read_wy (b : Fin 24) (n : Fin 256) (p : Fin 7) (k : Fin 4) :
    StableHlo.after preOps V (Proc.devRef .tc main_v80) (ix4 b n p k) = (wgtW yTop 99#32 (V (Proc.devRef .tc main_arg2) (ix3 b n 1)) (V (Proc.devRef .tc main_arg2) (ix3 b n 3)) p k : EReal) := by
  after_reads_at
  split <;> rename_i h
  · after_reads_at
    exact (if_pos h).symm
  · after_reads_at
    exact (if_neg h).symm

/-- The x axis's weights. -/
theorem read_wx (b : Fin 24) (n : Fin 256) (p : Fin 7) (k : Fin 4) :
    StableHlo.after preOps V (Proc.devRef .tc main_v134) (ix4 b n p k) = (wgtW xTop 151#32 (V (Proc.devRef .tc main_arg2) (ix3 b n 0)) (V (Proc.devRef .tc main_arg2) (ix3 b n 2)) p k : EReal) := by
  after_reads_at
  split <;> rename_i h
  · after_reads_at
    exact (if_pos h).symm
  · after_reads_at
    exact (if_neg h).symm

/-- The y axis's elements. -/
theorem read_yi (b : Fin 24) (n : Fin 256) (p : Fin 7) (k : Fin 4) :
    StableHlo.after preOps V (Proc.devRef .tc main_v84) (ix4 b n p k) = (indW 99#32 (V (Proc.devRef .tc main_arg2) (ix3 b n 1)) (V (Proc.devRef .tc main_arg2) (ix3 b n 3)) p k : BitVec 32) := by
  after_reads_at
  split <;> rename_i h
  · after_reads_at
    exact (if_pos h).symm
  · after_reads_at
    exact (if_neg h).symm

/-- The x axis's elements. -/
theorem read_xi (b : Fin 24) (n : Fin 256) (p : Fin 7) (k : Fin 4) :
    StableHlo.after preOps V (Proc.devRef .tc main_v138) (ix4 b n p k) = (indW 151#32 (V (Proc.devRef .tc main_arg2) (ix3 b n 0)) (V (Proc.devRef .tc main_arg2) (ix3 b n 2)) p k : BitVec 32) := by
  after_reads_at
  split <;> rename_i h
  · after_reads_at
    exact (if_pos h).symm
  · after_reads_at
    exact (if_neg h).symm

theorem select_clean (g : EReal) :
    (if max g (-g) < Ideal.ofBits .f32 0x7F800000#32 then g else Ideal.ofBits .f32 0x7FC00000#32) = clean g := by
  rw [ofBits_inf, ofBits_nan]; rfl

/-- The scaled gradient. -/
theorem read_g (b : Fin 24) (n : Fin 256) (p q : Fin 7) (ch : Fin 160) (e s : EReal) (he : V (Proc.devRef .tc main_v0) (ix5 b n p q ch) = e)
    (hs : V (Proc.devRef .tc main_arg1) (ix3 b n ⟨ch.val / 32, by omega⟩) = s) :
    StableHlo.after preOps V (Proc.devRef .tc main_v149) (ix5 b n p q ch) = clean (Ideal.div (e * s) ((4 : ℝ) : EReal)) := by
  after_reads_at
  have hch : (⟨ch.val / 32 * 32 + ch.val % 32, by omega⟩ : Fin 160) = ch := Fin.ext (by simp only []; omega)
  rw [hch, he, hs, ofBits_four]
  exact select_clean _

end Cert.Value

end
-- ==== Proof.Value.Scatter.lean ====
/- The reference's scatter, read at one element of the result: the sum of the contributions whose elements are that one. -/
module

public import proofs.«01_k».proof.Proof.Value.Read
public import Idealize.ShloMosaic.Lib.Routing.OpsPair

@[expose] public section

set_option maxRecDepth 16384

noncomputable section

namespace Cert.Value

open Idealize.ShloMosaic Idealize.ShloMosaic.TcCoe Idealize.ShloMosaic.Tactic
open Idealize.SL.Sem
open Cert.ReferenceIdeal Cert.ReferenceIdeal.Gen
open scoped BigOperators

/-- The scatter's dimension numbers. -/
abbrev dims : ScatterDims S24x100x152x160 S24x256x7x4x7x4x3 S24x256x7x4x7x4x160 := scatter_S24x100x152x160_S24x256x7x4x7x4x3_S24x256x7x4x7x4x160_6_012_012_6

variable (idx : IVec S24x256x7x4x7x4x3 32) (b : Fin 24) (n : Fin 256) (p : Fin 7) (k : Fin 4) (q : Fin 7) (l : Fin 4) (ch : Fin 160)

/-- Where component `c` of an update's start index is read. -/
theorem siIdx_eq (c : Fin 3) : dims.siIdx (ix7 b n p k q l ch) c = ix7 b n p k q l c := by
  funext a
  fin_cases a <;> rfl

theorem start_0 : dims.start (ix7 b n p k q l ch) idx 0 = (idx (ix7 b n p k q l 0)).toInt := by
  rw [← siIdx_eq b n p k q l ch 0]; rfl

theorem start_1 : dims.start (ix7 b n p k q l ch) idx 1 = (idx (ix7 b n p k q l 1)).toInt := by
  rw [← siIdx_eq b n p k q l ch 1]; rfl

theorem start_2 : dims.start (ix7 b n p k q l ch) idx 2 = (idx (ix7 b n p k q l 2)).toInt := by
  rw [← siIdx_eq b n p k q l ch 2]; rfl

theorem start_3 : dims.start (ix7 b n p k q l ch) idx 3 = 0 := rfl

theorem window_0 : dims.window (ix7 b n p k q l ch) 0 = 0 := rfl
theorem window_1 : dims.window (ix7 b n p k q l ch) 1 = 0 := rfl
theorem window_2 : dims.window (ix7 b n p k q l ch) 2 = 0 := rfl
theorem window_3 : dims.window (ix7 b n p k q l ch) 3 = ch.val := rfl

/-- An update lands on an element exactly when its three indices and its channel are that element's. -/
theorem lands (b' : Fin 24) (y : Fin 100) (x : Fin 152) (ch' : Fin 160) :
    dims.resultIdx? (ix7 b n p k q l ch) idx = some (ix4 b' y x ch') ↔
      (idx (ix7 b n p k q l 0)).toInt = b'.val ∧ (idx (ix7 b n p k q l 1)).toInt = y.val ∧ (idx (ix7 b n p k q l 2)).toInt = x.val ∧ ch = ch' := by
  rw [Routing.resultIdx?_eq_some]
  constructor
  · intro h
    have h0 := h 0
    have h1 := h 1
    have h2 := h 2
    have h3 := h 3
    rw [start_0, window_0] at h0
    rw [start_1, window_1] at h1
    rw [start_2, window_2] at h2
    rw [start_3, window_3] at h3
    refine ⟨by simpa using h0, by simpa using h1, by simpa using h2, Fin.ext ?_⟩
    have : ((ch.val : ℕ) : ℤ) = (ch'.val : ℤ) := by simpa using h3
    exact_mod_cast this
  · rintro ⟨h0, h1, h2, rfl⟩ a
    fin_cases a
    · exact (congrArg₂ (· + ·) (start_0 idx b n p k q l ch) (congrArg Nat.cast (window_0 b n p k q l ch))).trans (by simpa using h0)
    · exact (congrArg₂ (· + ·) (start_1 idx b n p k q l ch) (congrArg Nat.cast (window_1 b n p k q l ch))).trans (by simpa using h1)
    · exact (congrArg₂ (· + ·) (start_2 idx b n p k q l ch) (congrArg Nat.cast (window_2 b n p k q l ch))).trans (by simpa using h2)
    · exact (congrArg₂ (· + ·) (start_3 idx b n p k q l ch) (congrArg Nat.cast (window_3 b n p k q l ch))).trans (by simp)

variable (V : Valuation τ sig (Elt Ideal))

set_option maxHeartbeats 4000000

/-- A contribution: the gradient times the two weights. -/
theorem read_upd (g wy wx : EReal) (hg : V (Proc.devRef .tc main_v149) (ix5 b n p q ch) = g) (hy : V (Proc.devRef .tc main_v80) (ix4 b n p k) = wy)
    (hx : V (Proc.devRef .tc main_v134) (ix4 b n q l) = wx) :
    StableHlo.after (hostOps1_22 (F := Ideal)) V (Proc.devRef .tc main_v159) (ix7 b n p k q l ch) = g * (wy * wx) := by
  after_reads_at
  rw [hg, hy, hx]

/-- A whole number that is not negative is left as it is by the wrap of negative indices. -/
theorem wrap_small {j : ℕ} (h : j < 1000) (a : BitVec 32) :
    Scalar.select (IntOp.cmpi .slt (BitVec.ofNat 32 j) 0#32) a (BitVec.ofNat 32 j) = BitVec.ofNat 32 j :=
  Routing.wrap_of_lt _ _ (by rw [BitVec.toNat_ofNat, Nat.mod_eq_of_lt (by omega)]; norm_num; omega)

theorem toInt_small {j : ℕ} (h : j < 1000) : (BitVec.ofNat 32 j).toInt = (j : ℤ) := by
  have e : (BitVec.ofNat 32 j).toNat = j := by rw [BitVec.toNat_ofNat]; exact Nat.mod_eq_of_lt (by omega)
  rw [BitVec.toInt_eq_toNat_of_lt (by rw [e]; omega), e]

/-- The first index of an update is its image. -/
theorem read_idx0 : StableHlo.after (hostOps1_22 (F := Ideal)) V (Proc.devRef .tc main_v186) (ix7 b n p k q l 0) = BitVec.ofNat 32 b.val := by
  after_reads_at
  after_reads_at
  exact wrap_small (by omega) _

/-- The second is the y axis's element. -/
theorem read_idx1 {j : ℕ} (hj : j < 1000) (h : V (Proc.devRef .tc main_v84) (ix4 b n p k) = BitVec.ofNat 32 j) :
    StableHlo.after (hostOps1_22 (F := Ideal)) V (Proc.devRef .tc main_v186) (ix7 b n p k q l 1) = BitVec.ofNat 32 j := by
  after_reads_at
  after_reads_at
  rw [h]
  exact wrap_small hj _

/-- The third is the x axis's element. -/
theorem read_idx2 {j : ℕ} (hj : j < 1000) (h : V (Proc.devRef .tc main_v138) (ix4 b n q l) = BitVec.ofNat 32 j) :
    StableHlo.after (hostOps1_22 (F := Ideal)) V (Proc.devRef .tc main_v186) (ix7 b n p k q l 2) = BitVec.ofNat 32 j := by
  after_reads_at
  after_reads_at
  rw [h]
  exact wrap_small hj _

/-- The result is the scatter of the contributions into zeros. -/
theorem read_scatter : StableHlo.after (hostOps1_22 (F := Ideal)) V (Proc.devRef .tc main_v187)
    = Host.scatterAdd (F := Ideal) (φ := .f32) dims (broadcastInDim S24x100x152x160 ![] bcast_S_S24x100x152x160 (constant S_ .f32 0x00000000#32))
        (StableHlo.after (hostOps1_22 (F := Ideal)) V (Proc.devRef .tc main_v186)) (StableHlo.after (hostOps1_22 (F := Ideal)) V (Proc.devRef .tc main_v159)) := by
  after_reads_simp

/-- A scatter into zeros at one element: over the boxes and the pairs of weights, the contributions whose elements are that one. -/
theorem scatter_at (Z : S24x100x152x160.Idx → EReal) (hZ : ∀ i, Z i = 0) (U : S24x256x7x4x7x4x160.Idx → EReal)
    (u : Fin 24 → Fin 256 → Fin 7 → Fin 4 → Fin 7 → Fin 4 → Fin 160 → EReal) (jy jx : Fin 24 → Fin 256 → Fin 7 → Fin 4 → ℕ)
    (hU : ∀ b n p k q l ch, U (ix7 b n p k q l ch) = u b n p k q l ch)
    (hI : ∀ b n p k q l, (idx (ix7 b n p k q l 0)).toInt = (b.val : ℤ) ∧ (idx (ix7 b n p k q l 1)).toInt = (jy b n p k : ℤ) ∧ (idx (ix7 b n p k q l 2)).toInt = (jx b n q l : ℤ))
    (y : Fin 100) (x : Fin 152) :
    Ideal.hostScatterAdd dims Z idx U (ix4 b y x ch)
      = ∑ n, ∑ p, ∑ k, ∑ q, ∑ l, if jy b n p k = y.val ∧ jx b n q l = x.val then u b n p k q l ch else 0 := by
  show Z (ix4 b y x ch) + ∑ j ∈ Finset.univ.filter (fun j => dims.resultIdx? j idx = some (ix4 b y x ch)), U j = _
  rw [hZ, zero_add, Finset.sum_filter, sum_idx7]
  have hstep : ∀ (b' : Fin 24) n p k q l (ch' : Fin 160),
      (if dims.resultIdx? (ix7 b' n p k q l ch') idx = some (ix4 b y x ch) then U (ix7 b' n p k q l ch') else 0)
      = if b' = b then if ch' = ch then (if jy b n p k = y.val ∧ jx b n q l = x.val then u b n p k q l ch else 0) else 0 else 0 := by
    intro b' n p k q l ch'
    have hl := lands idx b' n p k q l ch' b y x ch
    rw [(hI b' n p k q l).1, (hI b' n p k q l).2.1, (hI b' n p k q l).2.2] at hl
    rw [hU]
    by_cases hb : b' = b
    · subst hb
      rw [if_pos rfl]
      by_cases hc : ch' = ch
      · subst hc
        rw [if_pos rfl]
        refine if_congr (hl.trans ?_) rfl rfl
        simp only [true_and, and_true, Nat.cast_inj]
      · rw [if_neg hc, if_neg fun h => hc (hl.1 h).2.2.2]
    · rw [if_neg hb, if_neg fun h => hb (Fin.ext (by exact_mod_cast (hl.1 h).1))]
  refine (Finset.sum_congr rfl fun b' _ => Finset.sum_congr rfl fun n _ => Finset.sum_congr rfl fun p _ => Finset.sum_congr rfl fun k _ =>
    Finset.sum_congr rfl fun q _ => Finset.sum_congr rfl fun l _ => Finset.sum_congr rfl fun ch' _ => hstep b' n p k q l ch').trans ?_
  rw [Finset.sum_eq_single b (fun b' _ hb => by simp only [if_neg hb, Finset.sum_const_zero]) (fun h => absurd (Finset.mem_univ b) h)]
  refine Finset.sum_congr rfl fun n _ => Finset.sum_congr rfl fun p _ => Finset.sum_congr rfl fun k _ =>
    Finset.sum_congr rfl fun q _ => Finset.sum_congr rfl fun l _ => ?_
  rw [Finset.sum_eq_single ch (fun c _ hc => by rw [if_pos rfl, if_neg hc]) (fun h => absurd (Finset.mem_univ ch) h), if_pos rfl, if_pos rfl]

/-- One element of the result, over the cleaned gradients, the weights and their elements. -/
theorem read_dx (g : Fin 24 → Fin 256 → Fin 7 → Fin 7 → Fin 160 → EReal) (wy wx : Fin 24 → Fin 256 → Fin 7 → Fin 4 → EReal)
    (jy jx : Fin 24 → Fin 256 → Fin 7 → Fin 4 → ℕ)
    (hg : ∀ b n p q ch, V (Proc.devRef .tc main_v149) (ix5 b n p q ch) = g b n p q ch)
    (hwy : ∀ b n p k, V (Proc.devRef .tc main_v80) (ix4 b n p k) = wy b n p k) (hwx : ∀ b n p k, V (Proc.devRef .tc main_v134) (ix4 b n p k) = wx b n p k)
    (hjy : ∀ b n p k, jy b n p k < 1000 ∧ V (Proc.devRef .tc main_v84) (ix4 b n p k) = BitVec.ofNat 32 (jy b n p k))
    (hjx : ∀ b n p k, jx b n p k < 1000 ∧ V (Proc.devRef .tc main_v138) (ix4 b n p k) = BitVec.ofNat 32 (jx b n p k)) (y : Fin 100) (x : Fin 152) :
    StableHlo.after (hostOps1_22 (F := Ideal)) V (Proc.devRef .tc main_v187) (ix4 b y x ch)
      = ∑ n, ∑ p, ∑ k, ∑ q, ∑ l, if jy b n p k = y.val ∧ jx b n q l = x.val then g b n p q ch * (wy b n p k * wx b n q l) else 0 := by
  rw [read_scatter]
  refine scatter_at _ b ch _ (fun _ => Ideal.ofBits_zero_f32) _ (fun b n p k q l ch => g b n p q ch * (wy b n p k * wx b n q l)) jy jx
    (fun b n p k q l ch => read_upd b n p k q l ch V _ _ _ (hg b n p q ch) (hwy b n p k) (hwx b n q l)) (fun b n p k q l => ?_) y x
  rw [read_idx0, read_idx1 b n p k q l V (hjy b n p k).1 (hjy b n p k).2, read_idx2 b n p k q l V (hjx b n q l).1 (hjx b n q l).2]
  exact ⟨toInt_small (by omega), toInt_small (hjy b n p k).1, toInt_small (hjx b n q l).1⟩

end Cert.Value

end
-- ==== Proof.Value.RefRun.lean ====
/- What the reference leaves in its three results, over its arguments. -/
module

public import proofs.«01_k».proof.Proof.Value.Scatter
public import Idealize.ShloMosaic.Lib.Pipeline.ValueKit

@[expose] public section

set_option maxRecDepth 16384

noncomputable section

namespace Cert.Value

open Idealize.ShloMosaic Idealize.ShloMosaic.TcCoe Idealize.ShloMosaic.Tactic
open Idealize.SL.Sem
open Cert.ReferenceIdeal Cert.ReferenceIdeal.Gen
open Cert.KernelIdeal.Val (yTop yLast xTop xLast)

variable (m : (ℓ : Loc nD τ sig) → Buf (Elt Ideal) ℓ) (c : Dev nD)

/-- The reference's arguments. -/
abbrev refCodes : Vec Ideal S24x256x7x7x160 .fp8e5m2 := m ((c : Thread nD τ).loc main_arg0)
abbrev refScales : Vec Ideal S24x256x5 .f32 := m ((c : Thread nD τ).loc main_arg1)
abbrev refBoxes : Vec Ideal S24x256x4 .f32 := m ((c : Thread nD τ).loc main_arg2)

/-- The codes read as numbers: the array the first step leaves. -/
theorem final_codes : (dats m 0 c).arrAt 1 cfg0.N = fun i : S24x256x7x7x160.Idx => refCodes m c i := by
  refine (dats m 0 c).arrAt_eq_of_covers 1 _ (by decide +kernel) fun t _ y => ?_
  blk_simp
  rw [after0_1]
  frame_out
  rfl

/-- The windows stage distinct arrays. -/
theorem ref_arr_inj : Function.Injective (Pipeline.arrRef (cfgs 0).spec) := by
  intro a b
  revert a b
  decide

/-- What the host operations find. -/
abbrev refV : Valuation τ sig (Elt Ideal) := Pipeline.withArrays (cfgs 0).spec c (V0 m c) fun w => (dats m 0 c).arrAt w (cfgs 0).N

theorem refV_codes (i : S24x256x7x7x160.Idx) : refV m c (Proc.devRef .tc main_v0) i = refCodes m c i :=
  (congrFun (Pipeline.withArrays_arr (cfgs 0).spec ref_arr_inj c (V0 m c) (fun w => (dats m 0 c).arrAt w (cfgs 0).N) 1) i).trans (congrFun (final_codes m c) i)

theorem refV_scales : refV m c (Proc.devRef .tc main_arg1) = refScales m c :=
  Pipeline.withArrays_of_ne _ c (V0 m c) _ main_arg1 (by exact (by decide : ∀ w, Pipeline.arrRef spec0 w ≠ main_arg1))

theorem refV_boxes : refV m c (Proc.devRef .tc main_arg2) = refBoxes m c :=
  Pipeline.withArrays_of_ne _ c (V0 m c) _ main_arg2 (by exact (by decide : ∀ w, Pipeline.arrRef spec0 w ≠ main_arg2))

/-- All the host operations: the arithmetic, then the scatter. -/
abbrev tailOps : List (List (HloOp τ sig (Elt Ideal))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]

theorem tail_eq (b : Ref sig .tc) : Pipeline.afterTail₀ cfgs (dats m) 0 (V0 m) tailOps c b
    = StableHlo.after hostOps1_22 (StableHlo.after preOps (refV m c)) (Proc.devRef .tc b) := by
  show StableHlo.after tailOps.flatten (refV m c) (Proc.devRef .tc b) = _
  rw [← StableHlo.after_append]
  congr 1

/-- The y axis's weights. -/
theorem ref_wy (b : Fin 24) (n : Fin 256) (p : Fin 7) (k : Fin 4) : Pipeline.afterTail₀ cfgs (dats m) 0 (V0 m) tailOps c main_v80 (ix4 b n p k)
    = wgtW yTop 99#32 (refBoxes m c (ix3 b n 1)) (refBoxes m c (ix3 b n 3)) p k := by
  rw [tail_eq, StableHlo.after_of_writes_sub (r := main_v80) hostOps1_22 _ hostOps1_22_writes (by decide +kernel), read_wy, refV_boxes]

/-- The x axis's weights. -/
theorem ref_wx (b : Fin 24) (n : Fin 256) (p : Fin 7) (k : Fin 4) : Pipeline.afterTail₀ cfgs (dats m) 0 (V0 m) tailOps c main_v134 (ix4 b n p k)
    = wgtW xTop 151#32 (refBoxes m c (ix3 b n 0)) (refBoxes m c (ix3 b n 2)) p k := by
  rw [tail_eq, StableHlo.after_of_writes_sub (r := main_v134) hostOps1_22 _ hostOps1_22_writes (by decide +kernel), read_wx, refV_boxes]

/-- The gradients of the feature map. -/
theorem ref_dx (fy fx : Fin 24 → Fin 256 → Fin 7 → Fin 4 → ℝ) (jy jx : Fin 24 → Fin 256 → Fin 7 → Fin 4 → ℕ) (s : Fin 24 → Fin 256 → Fin 5 → ℝ)
    (hy : ∀ b n p k, jy b n p k ≤ 99 ∧ wgtW yTop 99#32 (refBoxes m c (ix3 b n 1)) (refBoxes m c (ix3 b n 3)) p k = (fy b n p k : EReal)
      ∧ indW 99#32 (refBoxes m c (ix3 b n 1)) (refBoxes m c (ix3 b n 3)) p k = BitVec.ofNat 32 (jy b n p k))
    (hx : ∀ b n p k, jx b n p k ≤ 151 ∧ wgtW xTop 151#32 (refBoxes m c (ix3 b n 0)) (refBoxes m c (ix3 b n 2)) p k = (fx b n p k : EReal)
      ∧ indW 151#32 (refBoxes m c (ix3 b n 0)) (refBoxes m c (ix3 b n 2)) p k = BitVec.ofNat 32 (jx b n p k))
    (hs : ∀ b n r, refScales m c (ix3 b n r) = (s b n r : EReal)) (b : Fin 24) (y : Fin 100) (x : Fin 152) (ch : Fin 160) :
    Pipeline.afterTail₀ cfgs (dats m) 0 (V0 m) tailOps c main_v187 (ix4 b y x ch)
      = dxSum (fun b n p q ch => clean (Ideal.div ((show EReal from refCodes m c (ix5 b n p q ch)) * (s b n ⟨ch.val / 32, by omega⟩ : EReal)) ((4 : ℝ) : EReal))) fy fx jy jx b y.val x.val ch := by
  rw [tail_eq]
  refine read_dx b ch (StableHlo.after preOps (refV m c)) _ (fun b n p k => (fy b n p k : EReal)) (fun b n p k => (fx b n p k : EReal)) jy jx
    (fun b n p q ch => read_g (refV m c) b n p q ch _ _ (refV_codes m c _) ((congrFun (refV_scales m c) _).trans (hs _ _ _)))
    (fun b n p k => ?_) (fun b n p k => ?_) (fun b n p k => ⟨by have := (hy b n p k).1; omega, ?_⟩) (fun b n p k => ⟨by have := (hx b n p k).1; omega, ?_⟩) y x
  · rw [read_wy, refV_boxes]; exact (hy b n p k).2.1
  · rw [read_wx, refV_boxes]; exact (hx b n p k).2.1
  · rw [read_yi, refV_boxes]; exact (hy b n p k).2.2
  · rw [read_xi, refV_boxes]; exact (hx b n p k).2.2

end Cert.Value

end
-- ==== Proof.Value.Pre.lean ====
/- What the precondition gives: every group's scale is a real number. -/
module

public import proofs.«01_k».proof.Pre_finite_scale
public import proofs.«01_k».proof.Proof.Value.Axis
public import Idealize.ShloMosaic.Lib.ReduceAll

@[expose] public section

noncomputable section

namespace Cert.Value

open Idealize.ShloMosaic Cert.Pre_finite_scale

/-- The predicate's side conditions. -/
theorem preFacts : Cert.Pre_finite_scale.Facts where
  bcast_S_S24x256x5 := by decide
  reducesTo_S24x256x5_S_d0_1_2 := by decide
  h_S_ := by decide

/-- A value below infinity in size is a real number. -/
theorem real_of_abs_lt {x : EReal} (h : max x (-x) < ⊤) : ∃ r : ℝ, x = (r : EReal) := by
  induction x using EReal.rec with
  | bot => simp at h
  | top => simp at h
  | coe r => exact ⟨r, rfl⟩

/-- Where the predicate holds, every scale is a real number. -/
theorem scale_real [Cert.Pre_finite_scale.Facts] (a0 : FVec Ideal S24x256x7x7x160 .fp8e5m2) (a1 : FVec Ideal S24x256x5 .f32) (a2 : FVec Ideal S24x256x4 .f32)
    (h : fn (F := Ideal) a0 a1 a2 = fun _ => 1#1) (i : S24x256x5.Idx) : ∃ r : ℝ, a1 i = (r : EReal) := by
  haveI : Subsingleton S_.Idx := ⟨fun a b => funext fun k => k.elim0⟩
  have e := Host.reduce_andi_all _ _ _ _ (fun k => k.elim0) (congrFun h _) i
  have e' : Ideal.cmp .olt (max (a1 i) (-(a1 i))) (Ideal.ofBits .f32 0x7F800000#32) = 1#1 := e
  rw [ofBits_inf] at e'
  refine real_of_abs_lt ?_
  by_contra hn
  simp [Ideal.cmp, hn] at e'

end Cert.Value

end
-- ==== Proof.Value.Claim.lean ====
/- The value claim: both programs leave the same three arrays. -/
module

public import proofs.«01_k».proof.Defs
public import proofs.«01_k».proof.Proof.Value.Grads
public import proofs.«01_k».proof.Proof.Value.RefRun
public import proofs.«01_k».proof.Proof.Value.Pre

@[expose] public section

set_option maxRecDepth 16384

noncomputable section

namespace Cert.Value

open Idealize.ShloMosaic Idealize.ShloMosaic.TcCoe Idealize.ShloMosaic.Tactic
open Idealize.SL.Sem
open Cert.KernelIdeal.Val (yTop yLast xTop xLast wgt ind edge bin codes scales boxes)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : refCodes m' c = codes m c) (h1 : refScales m' c = scales m c) (h2 : refBoxes m' c = boxes m c)

/-- The arrays the kernel leaves. -/
abbrev kerEnd (b : Ref Cert.KernelIdeal.sig .tc) := Pipeline.afterTail₀ Cert.KernelIdeal.cfgs (Cert.KernelIdeal.Val.dats m) 0 (Cert.KernelIdeal.Gen.V0 m) [Cert.KernelIdeal.Gen.hostOps1] c b
/-- The arrays the reference leaves. -/
abbrev refEnd (b : Ref Cert.ReferenceIdeal.sig .tc) := Pipeline.afterTail₀ Cert.ReferenceIdeal.cfgs (Cert.ReferenceIdeal.Gen.dats m') 0 (Cert.ReferenceIdeal.Gen.V0 m') tailOps c b

include h2 in
/-- The y axis's weights agree. -/
theorem wy_agree : refEnd m' c Cert.ReferenceIdeal.main_v80 = kerEnd m c Cert.KernelIdeal.main_v5 := by
  refine Eq.trans ?_ (Cert.KernelIdeal.Val.out_wy m c).symm
  funext i
  idx_vars i
  refine (ref_wy m' c i0 i1 i2 i3).trans ?_
  rw [h2]
  exact (wgt_eq (n := 99) (by decide) ofBits_100 ofBits_99 _ _ _ _).symm

include h2 in
/-- The x axis's weights agree. -/
theorem wx_agree : refEnd m' c Cert.ReferenceIdeal.main_v134 = kerEnd m c Cert.KernelIdeal.main_v6 := by
  refine Eq.trans ?_ (Cert.KernelIdeal.Val.out_wx m c).symm
  funext i
  idx_vars i
  refine (ref_wx m' c i0 i1 i2 i3).trans ?_
  rw [h2]
  exact (wgt_eq (n := 151) (by decide) ofBits_152 ofBits_151 _ _ _ _).symm

include h0 h1 h2 in
/-- The gradients of the feature map agree where every scale is a real number. -/
theorem dx_agree (hs : ∀ i, ∃ r : ℝ, scales m c i = (r : EReal)) : refEnd m' c Cert.ReferenceIdeal.main_v187 = kerEnd m c Cert.KernelIdeal.main_v4 := by
  choose s hs using fun b n r => hs (ix3 b n r)
  choose fy jy hy using fun b n p k => axis_vals (n := 99) (by decide) ofBits_100 ofBits_99 (boxes m c (ix3 b n 1)) (boxes m c (ix3 b n 3)) p k
  choose fx jx hx using fun b n p k => axis_vals (n := 151) (by decide) ofBits_152 ofBits_151 (boxes m c (ix3 b n 0)) (boxes m c (ix3 b n 2)) p k
  refine Eq.trans ?_ (Cert.KernelIdeal.Val.out_dx m c fy fx jy jx s (fun b n p k => ⟨(hy b n p k).1, (hy b n p k).2.2.2.2⟩)
    (fun b n p k => ⟨(hx b n p k).1, (hx b n p k).2.2.2.2⟩) hs).symm
  funext i
  idx_vars i
  refine (ref_dx m' c fy fx jy jx s (fun b n p k => ?_) (fun b n p k => ?_) (fun b n r => (congrFun h1 _).trans (hs b n r)) i0 i1 i2 i3).trans ?_
  · rw [h2]; exact ⟨(hy b n p k).2.1, (hy b n p k).2.2.1, (hy b n p k).2.2.2.1⟩
  · rw [h2]; exact ⟨(hx b n p k).2.1, (hx b n p k).2.2.1, (hx b n p k).2.2.2.1⟩
  · rw [h0]; rfl

/-- The value claim. -/
theorem algebraic [hPre_finite_scale : Cert.Pre_finite_scale.Facts] : Cert.algebraic_KernelIdeal_ReferenceIdeal_pre_finite_scale := by
  intro m g m' g' hpre hargs
  refine ⟨fun c => kerEnd m c Cert.KernelIdeal.main_v4, fun c => kerEnd m c Cert.KernelIdeal.main_v5, fun c => kerEnd m c Cert.KernelIdeal.main_v6, ?_, ?_⟩
  · refine (θ_run _ _ _).mono (fun r h c => ?_) (θ_run_and (Cert.KernelIdeal.Val.run_main m g) (Cert.KernelIdeal.Val.frame_run m g))
    exact ⟨(h.1 c).2 Cert.KernelIdeal.main_v4 (Pipeline.mem_restRefs_of _ (by decide) (by decide)),
      (h.1 c).2 Cert.KernelIdeal.main_v5 (Pipeline.mem_restRefs_of _ (by decide) (by decide)),
      (h.1 c).2 Cert.KernelIdeal.main_v6 (Pipeline.mem_restRefs_of _ (by decide) (by decide)), h.2.1 c⟩
  · refine (θ_run _ _ _).mono (fun r h c => ?_) (θ_run_and (Cert.ReferenceIdeal.Gen.run_main m' g') (Cert.ReferenceIdeal.Gen.frame m' g'))
    obtain ⟨a0, a1, a2⟩ := hargs c
    exact ⟨((h.1 c).2 Cert.ReferenceIdeal.main_v187 (Pipeline.mem_restRefs_of _ (by decide) (by decide))).trans
        (dx_agree m m' c a0 a1 a2 fun i => scale_real _ _ _ (hpre c) i),
      ((h.1 c).2 Cert.ReferenceIdeal.main_v80 (Pipeline.mem_restRefs_of _ (by decide) (by decide))).trans (wy_agree m m' c a2),
      ((h.1 c).2 Cert.ReferenceIdeal.main_v134 (Pipeline.mem_restRefs_of _ (by decide) (by decide))).trans (wx_agree m m' c a2), h.2.1 c⟩

end Cert.Value

end
-- ==== Proof.lean ====
/- The claims, put together: each program's run, the rewrite-free idealization, the value claim. -/
module

public import proofs.«01_k».proof.Defs
public import proofs.«01_k».proof.Proof.KRun.Frame
public import proofs.«01_k».proof.Proof.Run.Frame
public import proofs.«01_k».proof.Proof.Gen.ReferenceIdeal.Frame
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Value.preFacts,
  fun m ρ _ => Cert.Kernel.Fr.frame m ρ,
  fun m ρ _ => Cert.KernelIdeal.Val.frame_run m ρ,
  fun m ρ _ => Cert.KernelIdeal.Val.frame_run m ρ,
  fun m ρ _ => Cert.ReferenceIdeal.Gen.frame m ρ,
  fun m ρ _ => Cert.ReferenceIdeal.Gen.frame m ρ,
  trivial,
  Cert.Value.algebraic (hPre_finite_scale := Cert.Value.preFacts)⟩

end Cert.Proof

end
